-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x1024 : Shape := ⟨2, ![1024, 1024]⟩
abbrev S_ : Shape := ⟨0, ![]⟩
abbrev S32 : Shape := ⟨1, ![32]⟩
abbrev S1 : Shape := ⟨1, ![1]⟩
abbrev S128x1024 : Shape := ⟨2, ![128, 1024]⟩

abbrev nBuf : Space → Nat
  | .hbm => 2
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S4096x1024, .bf16⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c1024_i32 : BitVec 32 := 1024#32
  let v24 : BitVec 32 := Scalar.muli v13 c1024_i32
  let c0_i32 : BitVec 32 := 0#32
  ![v24.toNat, 0]
def k0_dev1 (d0 : Dev nD) : Nat :=
  let c0_i32_20 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_19 : BitVec 32 := 4#32
  let v33 : BitVec 32 := Scalar.muli v9 c4_i32_19
  let v34 : BitVec 32 := Scalar.addi c0_i32_20 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v35 : BitVec 32 := Scalar.muli v5 c2_i32_21
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v37 : BitVec 32 := Scalar.muli v8 c1_i32_22
  let v38 : BitVec 32 := Scalar.addi v36 v37
  v38.toNat
def k0_dev2 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v39 : BitVec 32 := Scalar.muli v2 c4_i32_24
  let v40 : BitVec 32 := Scalar.addi c0_i32_25 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_26 : BitVec 32 := 2#32
  let v41 : BitVec 32 := Scalar.muli v10 c2_i32_26
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v43 : BitVec 32 := Scalar.muli v8 c1_i32_27
  let v44 : BitVec 32 := Scalar.addi v42 v43
  v44.toNat
def k0_dev3 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_29 : BitVec 32 := 4#32
  let v45 : BitVec 32 := Scalar.muli v2 c4_i32_29
  let v46 : BitVec 32 := Scalar.addi c0_i32_30 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v47 : BitVec 32 := Scalar.muli v5 c2_i32_31
  let v48 : BitVec 32 := Scalar.addi v46 v47
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_32 : BitVec 32 := 1#32
  let v49 : BitVec 32 := Scalar.muli v11 c1_i32_32
  let v50 : BitVec 32 := Scalar.addi v48 v49
  v50.toNat
def k0_dev4 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v51 : BitVec 32 := Scalar.muli v2 c4_i32_35
  let v52 : BitVec 32 := Scalar.addi c0_i32_36 v51
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v53 : BitVec 32 := Scalar.muli v5 c2_i32_37
  let v54 : BitVec 32 := Scalar.addi v52 v53
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_38 : BitVec 32 := 1#32
  let v55 : BitVec 32 := Scalar.muli v11 c1_i32_38
  let v56 : BitVec 32 := Scalar.addi v54 v55
  v56.toNat
def k0_dev5 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v63 : BitVec 32 := Scalar.muli v2 c4_i32_45
  let v64 : BitVec 32 := Scalar.addi c0_i32_46 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v65 : BitVec 32 := Scalar.muli v5 c2_i32_47
  let v66 : BitVec 32 := Scalar.addi v64 v65
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_48 : BitVec 32 := 1#32
  let v67 : BitVec 32 := Scalar.muli v11 c1_i32_48
  let v68 : BitVec 32 := Scalar.addi v66 v67
  v68.toNat
def k0_dev6 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v75 : BitVec 32 := Scalar.muli v2 c4_i32_54
  let v76 : BitVec 32 := Scalar.addi c0_i32_55 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v77 : BitVec 32 := Scalar.muli v5 c2_i32_56
  let v78 : BitVec 32 := Scalar.addi v76 v77
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_57 : BitVec 32 := 1#32
  let v79 : BitVec 32 := Scalar.muli v11 c1_i32_57
  let v80 : BitVec 32 := Scalar.addi v78 v79
  v80.toNat
def k0_dev7 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v87 : BitVec 32 := Scalar.muli v2 c4_i32_63
  let v88 : BitVec 32 := Scalar.addi c0_i32_64 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v89 : BitVec 32 := Scalar.muli v5 c2_i32_65
  let v90 : BitVec 32 := Scalar.addi v88 v89
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_66 : BitVec 32 := 1#32
  let v91 : BitVec 32 := Scalar.muli v11 c1_i32_66
  let v92 : BitVec 32 := Scalar.addi v90 v91
  v92.toNat
def k0_dev8 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v99 : BitVec 32 := Scalar.muli v2 c4_i32_72
  let v100 : BitVec 32 := Scalar.addi c0_i32_73 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v101 : BitVec 32 := Scalar.muli v5 c2_i32_74
  let v102 : BitVec 32 := Scalar.addi v100 v101
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_75 : BitVec 32 := 1#32
  let v103 : BitVec 32 := Scalar.muli v11 c1_i32_75
  let v104 : BitVec 32 := Scalar.addi v102 v103
  v104.toNat
def k0_dev9 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v111 : BitVec 32 := Scalar.muli v2 c4_i32_80
  let v112 : BitVec 32 := Scalar.addi c0_i32_81 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v113 : BitVec 32 := Scalar.muli v5 c2_i32_82
  let v114 : BitVec 32 := Scalar.addi v112 v113
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_83 : BitVec 32 := 1#32
  let v115 : BitVec 32 := Scalar.muli v11 c1_i32_83
  let v116 : BitVec 32 := Scalar.addi v114 v115
  v116.toNat
def k0_dev10 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v123 : BitVec 32 := Scalar.muli v2 c4_i32_88
  let v124 : BitVec 32 := Scalar.addi c0_i32_89 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v125 : BitVec 32 := Scalar.muli v5 c2_i32_90
  let v126 : BitVec 32 := Scalar.addi v124 v125
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_91 : BitVec 32 := 1#32
  let v127 : BitVec 32 := Scalar.muli v11 c1_i32_91
  let v128 : BitVec 32 := Scalar.addi v126 v127
  v128.toNat
def k0_dev11 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v135 : BitVec 32 := Scalar.muli v2 c4_i32_96
  let v136 : BitVec 32 := Scalar.addi c0_i32_97 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_98 : BitVec 32 := 2#32
  let v137 : BitVec 32 := Scalar.muli v5 c2_i32_98
  let v138 : BitVec 32 := Scalar.addi v136 v137
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_99 : BitVec 32 := 1#32
  let v139 : BitVec 32 := Scalar.muli v11 c1_i32_99
  let v140 : BitVec 32 := Scalar.addi v138 v139
  v140.toNat
def k0_dev12 (d0 : Dev nD) : Nat :=
  let c0_i32_121 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_120 : BitVec 32 := 4#32
  let v165 : BitVec 32 := Scalar.muli v9 c4_i32_120
  let v166 : BitVec 32 := Scalar.addi c0_i32_121 v165
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_122 : BitVec 32 := 2#32
  let v167 : BitVec 32 := Scalar.muli v5 c2_i32_122
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v169 : BitVec 32 := Scalar.muli v8 c1_i32_123
  let v170 : BitVec 32 := Scalar.addi v168 v169
  v170.toNat
def k0_dev13 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v177 : BitVec 32 := Scalar.muli v2 c4_i32_129
  let v178 : BitVec 32 := Scalar.addi c0_i32_130 v177
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_131 : BitVec 32 := 2#32
  let v179 : BitVec 32 := Scalar.muli v10 c2_i32_131
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v181 : BitVec 32 := Scalar.muli v8 c1_i32_132
  let v182 : BitVec 32 := Scalar.addi v180 v181
  v182.toNat
def k0_off2 (d0 : Dev nD) (c0_i32_138 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c1024_i32_137 : BitVec 32 := 1024#32
  let v190 : BitVec 32 := Scalar.muli v13 c1024_i32_137
  let v191 : BitVec 32 := Scalar.addi v190 c0_i32_138
  let v192 : Index := Scalar.indexCast v191
  let c0_139 : Index := 0#32
  ![v192.toNat, 0]
def k0_dev14 (d0 : Dev nD) : Nat :=
  let c0_i32_157 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_156 : BitVec 32 := 4#32
  let v212 : BitVec 32 := Scalar.muli v9 c4_i32_156
  let v213 : BitVec 32 := Scalar.addi c0_i32_157 v212
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_158 : BitVec 32 := 2#32
  let v214 : BitVec 32 := Scalar.muli v5 c2_i32_158
  let v215 : BitVec 32 := Scalar.addi v213 v214
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v216 : BitVec 32 := Scalar.muli v8 c1_i32_159
  let v217 : BitVec 32 := Scalar.addi v215 v216
  v217.toNat
def k0_dev15 (d0 : Dev nD) : Nat :=
  let c0_i32_166 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_165 : BitVec 32 := 4#32
  let v224 : BitVec 32 := Scalar.muli v2 c4_i32_165
  let v225 : BitVec 32 := Scalar.addi c0_i32_166 v224
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_167 : BitVec 32 := 2#32
  let v226 : BitVec 32 := Scalar.muli v10 c2_i32_167
  let v227 : BitVec 32 := Scalar.addi v225 v226
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_168 : BitVec 32 := 1#32
  let v228 : BitVec 32 := Scalar.muli v8 c1_i32_168
  let v229 : BitVec 32 := Scalar.addi v227 v228
  v229.toNat
def k0_dev16 (d0 : Dev nD) : Nat :=
  let c0_i32_193 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_192 : BitVec 32 := 4#32
  let v259 : BitVec 32 := Scalar.muli v9 c4_i32_192
  let v260 : BitVec 32 := Scalar.addi c0_i32_193 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_194 : BitVec 32 := 2#32
  let v261 : BitVec 32 := Scalar.muli v5 c2_i32_194
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_195 : BitVec 32 := 1#32
  let v263 : BitVec 32 := Scalar.muli v8 c1_i32_195
  let v264 : BitVec 32 := Scalar.addi v262 v263
  v264.toNat
def k0_dev17 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_201 : BitVec 32 := 4#32
  let v271 : BitVec 32 := Scalar.muli v2 c4_i32_201
  let v272 : BitVec 32 := Scalar.addi c0_i32_202 v271
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_203 : BitVec 32 := 2#32
  let v273 : BitVec 32 := Scalar.muli v10 c2_i32_203
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_204 : BitVec 32 := 1#32
  let v275 : BitVec 32 := Scalar.muli v8 c1_i32_204
  let v276 : BitVec 32 := Scalar.addi v274 v275
  v276.toNat
def k0_dev18 (d0 : Dev nD) : Nat :=
  let c0_i32_229 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_228 : BitVec 32 := 4#32
  let v306 : BitVec 32 := Scalar.muli v9 c4_i32_228
  let v307 : BitVec 32 := Scalar.addi c0_i32_229 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_230 : BitVec 32 := 2#32
  let v308 : BitVec 32 := Scalar.muli v5 c2_i32_230
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_231 : BitVec 32 := 1#32
  let v310 : BitVec 32 := Scalar.muli v8 c1_i32_231
  let v311 : BitVec 32 := Scalar.addi v309 v310
  v311.toNat
def k0_dev19 (d0 : Dev nD) : Nat :=
  let c0_i32_238 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_237 : BitVec 32 := 4#32
  let v318 : BitVec 32 := Scalar.muli v2 c4_i32_237
  let v319 : BitVec 32 := Scalar.addi c0_i32_238 v318
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_239 : BitVec 32 := 2#32
  let v320 : BitVec 32 := Scalar.muli v10 c2_i32_239
  let v321 : BitVec 32 := Scalar.addi v319 v320
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_240 : BitVec 32 := 1#32
  let v322 : BitVec 32 := Scalar.muli v8 c1_i32_240
  let v323 : BitVec 32 := Scalar.addi v321 v322
  v323.toNat
def k0_dev20 (d0 : Dev nD) : Nat :=
  let c0_i32_265 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_264 : BitVec 32 := 4#32
  let v353 : BitVec 32 := Scalar.muli v9 c4_i32_264
  let v354 : BitVec 32 := Scalar.addi c0_i32_265 v353
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_266 : BitVec 32 := 2#32
  let v355 : BitVec 32 := Scalar.muli v5 c2_i32_266
  let v356 : BitVec 32 := Scalar.addi v354 v355
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_267 : BitVec 32 := 1#32
  let v357 : BitVec 32 := Scalar.muli v8 c1_i32_267
  let v358 : BitVec 32 := Scalar.addi v356 v357
  v358.toNat
def k0_dev21 (d0 : Dev nD) : Nat :=
  let c0_i32_274 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_273 : BitVec 32 := 4#32
  let v365 : BitVec 32 := Scalar.muli v2 c4_i32_273
  let v366 : BitVec 32 := Scalar.addi c0_i32_274 v365
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_275 : BitVec 32 := 2#32
  let v367 : BitVec 32 := Scalar.muli v10 c2_i32_275
  let v368 : BitVec 32 := Scalar.addi v366 v367
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_276 : BitVec 32 := 1#32
  let v369 : BitVec 32 := Scalar.muli v8 c1_i32_276
  let v370 : BitVec 32 := Scalar.addi v368 v369
  v370.toNat
def k0_dev22 (d0 : Dev nD) : Nat :=
  let c0_i32_301 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_300 : BitVec 32 := 4#32
  let v400 : BitVec 32 := Scalar.muli v9 c4_i32_300
  let v401 : BitVec 32 := Scalar.addi c0_i32_301 v400
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_302 : BitVec 32 := 2#32
  let v402 : BitVec 32 := Scalar.muli v5 c2_i32_302
  let v403 : BitVec 32 := Scalar.addi v401 v402
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_303 : BitVec 32 := 1#32
  let v404 : BitVec 32 := Scalar.muli v8 c1_i32_303
  let v405 : BitVec 32 := Scalar.addi v403 v404
  v405.toNat
def k0_dev23 (d0 : Dev nD) : Nat :=
  let c0_i32_310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_309 : BitVec 32 := 4#32
  let v412 : BitVec 32 := Scalar.muli v2 c4_i32_309
  let v413 : BitVec 32 := Scalar.addi c0_i32_310 v412
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_311 : BitVec 32 := 2#32
  let v414 : BitVec 32 := Scalar.muli v10 c2_i32_311
  let v415 : BitVec 32 := Scalar.addi v413 v414
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_312 : BitVec 32 := 1#32
  let v416 : BitVec 32 := Scalar.muli v8 c1_i32_312
  let v417 : BitVec 32 := Scalar.addi v415 v416
  v417.toNat
def k0_dev24 (d0 : Dev nD) : Nat :=
  let c0_i32_337 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_336 : BitVec 32 := 4#32
  let v447 : BitVec 32 := Scalar.muli v9 c4_i32_336
  let v448 : BitVec 32 := Scalar.addi c0_i32_337 v447
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_338 : BitVec 32 := 2#32
  let v449 : BitVec 32 := Scalar.muli v5 c2_i32_338
  let v450 : BitVec 32 := Scalar.addi v448 v449
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v451 : BitVec 32 := Scalar.muli v8 c1_i32_339
  let v452 : BitVec 32 := Scalar.addi v450 v451
  v452.toNat
def k0_dev25 (d0 : Dev nD) : Nat :=
  let c0_i32_346 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_345 : BitVec 32 := 4#32
  let v459 : BitVec 32 := Scalar.muli v2 c4_i32_345
  let v460 : BitVec 32 := Scalar.addi c0_i32_346 v459
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_347 : BitVec 32 := 2#32
  let v461 : BitVec 32 := Scalar.muli v10 c2_i32_347
  let v462 : BitVec 32 := Scalar.addi v460 v461
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_348 : BitVec 32 := 1#32
  let v463 : BitVec 32 := Scalar.muli v8 c1_i32_348
  let v464 : BitVec 32 := Scalar.addi v462 v463
  v464.toNat
def k0_dev26 (d0 : Dev nD) : Nat :=
  let c0_i32_373 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_372 : BitVec 32 := 4#32
  let v494 : BitVec 32 := Scalar.muli v9 c4_i32_372
  let v495 : BitVec 32 := Scalar.addi c0_i32_373 v494
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_374 : BitVec 32 := 2#32
  let v496 : BitVec 32 := Scalar.muli v5 c2_i32_374
  let v497 : BitVec 32 := Scalar.addi v495 v496
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_375 : BitVec 32 := 1#32
  let v498 : BitVec 32 := Scalar.muli v8 c1_i32_375
  let v499 : BitVec 32 := Scalar.addi v497 v498
  v499.toNat
def k0_dev27 (d0 : Dev nD) : Nat :=
  let c0_i32_382 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_381 : BitVec 32 := 4#32
  let v506 : BitVec 32 := Scalar.muli v2 c4_i32_381
  let v507 : BitVec 32 := Scalar.addi c0_i32_382 v506
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_383 : BitVec 32 := 2#32
  let v508 : BitVec 32 := Scalar.muli v10 c2_i32_383
  let v509 : BitVec 32 := Scalar.addi v507 v508
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_384 : BitVec 32 := 1#32
  let v510 : BitVec 32 := Scalar.muli v8 c1_i32_384
  let v511 : BitVec 32 := Scalar.addi v509 v510
  v511.toNat
def k0_dev28 (d0 : Dev nD) : Nat :=
  let c0_i32_404 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_403 : BitVec 32 := 4#32
  let v533 : BitVec 32 := Scalar.muli v9 c4_i32_403
  let v534 : BitVec 32 := Scalar.addi c0_i32_404 v533
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_405 : BitVec 32 := 2#32
  let v535 : BitVec 32 := Scalar.muli v5 c2_i32_405
  let v536 : BitVec 32 := Scalar.addi v534 v535
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_406 : BitVec 32 := 1#32
  let v537 : BitVec 32 := Scalar.muli v8 c1_i32_406
  let v538 : BitVec 32 := Scalar.addi v536 v537
  v538.toNat
def k0_dev29 (d0 : Dev nD) : Nat :=
  let c0_i32_423 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_422 : BitVec 32 := 4#32
  let v555 : BitVec 32 := Scalar.muli v9 c4_i32_422
  let v556 : BitVec 32 := Scalar.addi c0_i32_423 v555
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_424 : BitVec 32 := 2#32
  let v557 : BitVec 32 := Scalar.muli v5 c2_i32_424
  let v558 : BitVec 32 := Scalar.addi v556 v557
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_425 : BitVec 32 := 1#32
  let v559 : BitVec 32 := Scalar.muli v8 c1_i32_425
  let v560 : BitVec 32 := Scalar.addi v558 v559
  v560.toNat
def k0_dev30 (d0 : Dev nD) : Nat :=
  let c0_i32_442 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_441 : BitVec 32 := 4#32
  let v577 : BitVec 32 := Scalar.muli v9 c4_i32_441
  let v578 : BitVec 32 := Scalar.addi c0_i32_442 v577
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_443 : BitVec 32 := 2#32
  let v579 : BitVec 32 := Scalar.muli v5 c2_i32_443
  let v580 : BitVec 32 := Scalar.addi v578 v579
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_444 : BitVec 32 := 1#32
  let v581 : BitVec 32 := Scalar.muli v8 c1_i32_444
  let v582 : BitVec 32 := Scalar.addi v580 v581
  v582.toNat
def k0_dev31 (d0 : Dev nD) : Nat :=
  let c0_i32_461 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_460 : BitVec 32 := 4#32
  let v599 : BitVec 32 := Scalar.muli v9 c4_i32_460
  let v600 : BitVec 32 := Scalar.addi c0_i32_461 v599
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_462 : BitVec 32 := 2#32
  let v601 : BitVec 32 := Scalar.muli v5 c2_i32_462
  let v602 : BitVec 32 := Scalar.addi v600 v601
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_463 : BitVec 32 := 1#32
  let v603 : BitVec 32 := Scalar.muli v8 c1_i32_463
  let v604 : BitVec 32 := Scalar.addi v602 v603
  v604.toNat
def k0_dev32 (d0 : Dev nD) : Nat :=
  let c0_i32_480 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_479 : BitVec 32 := 4#32
  let v621 : BitVec 32 := Scalar.muli v2 c4_i32_479
  let v622 : BitVec 32 := Scalar.addi c0_i32_480 v621
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_481 : BitVec 32 := 2#32
  let v623 : BitVec 32 := Scalar.muli v10 c2_i32_481
  let v624 : BitVec 32 := Scalar.addi v622 v623
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_482 : BitVec 32 := 1#32
  let v625 : BitVec 32 := Scalar.muli v8 c1_i32_482
  let v626 : BitVec 32 := Scalar.addi v624 v625
  v626.toNat
def k0_dev33 (d0 : Dev nD) : Nat :=
  let c0_i32_499 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_498 : BitVec 32 := 4#32
  let v643 : BitVec 32 := Scalar.muli v2 c4_i32_498
  let v644 : BitVec 32 := Scalar.addi c0_i32_499 v643
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_500 : BitVec 32 := 2#32
  let v645 : BitVec 32 := Scalar.muli v10 c2_i32_500
  let v646 : BitVec 32 := Scalar.addi v644 v645
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_501 : BitVec 32 := 1#32
  let v647 : BitVec 32 := Scalar.muli v8 c1_i32_501
  let v648 : BitVec 32 := Scalar.addi v646 v647
  v648.toNat
def k0_dev34 (d0 : Dev nD) : Nat :=
  let c0_i32_518 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_517 : BitVec 32 := 4#32
  let v665 : BitVec 32 := Scalar.muli v2 c4_i32_517
  let v666 : BitVec 32 := Scalar.addi c0_i32_518 v665
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_519 : BitVec 32 := 2#32
  let v667 : BitVec 32 := Scalar.muli v10 c2_i32_519
  let v668 : BitVec 32 := Scalar.addi v666 v667
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_520 : BitVec 32 := 1#32
  let v669 : BitVec 32 := Scalar.muli v8 c1_i32_520
  let v670 : BitVec 32 := Scalar.addi v668 v669
  v670.toNat
def k0_dev35 (d0 : Dev nD) : Nat :=
  let c0_i32_537 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_536 : BitVec 32 := 4#32
  let v687 : BitVec 32 := Scalar.muli v2 c4_i32_536
  let v688 : BitVec 32 := Scalar.addi c0_i32_537 v687
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_538 : BitVec 32 := 2#32
  let v689 : BitVec 32 := Scalar.muli v10 c2_i32_538
  let v690 : BitVec 32 := Scalar.addi v688 v689
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_539 : BitVec 32 := 1#32
  let v691 : BitVec 32 := Scalar.muli v8 c1_i32_539
  let v692 : BitVec 32 := Scalar.addi v690 v691
  v692.toNat
def k0_off3 (d0 : Dev nD) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c1024_i32_626 : BitVec 32 := 1024#32
  let v780 : BitVec 32 := Scalar.muli v16 c1024_i32_626
  let v781 : Index := Scalar.indexCast v780
  let c0_627 : Index := 0#32
  ![v781.toNat, 0]
def k0_off4 (d0 : Dev nD) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c1024_i32_630 : BitVec 32 := 1024#32
  let v784 : BitVec 32 := Scalar.muli v19 c1024_i32_630
  let v785 : Index := Scalar.indexCast v784
  let c0_631 : Index := 0#32
  ![v785.toNat, 0]
def k0_off5 (d0 : Dev nD) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c1024_i32_714 : BitVec 32 := 1024#32
  let v868 : BitVec 32 := Scalar.muli v23 c1024_i32_714
  let v869 : Index := Scalar.indexCast v868
  let c0_715 : Index := 0#32
  ![v869.toNat, 0]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S_, .f32⟩
  | .hbm, ⟨3, _⟩ => ⟨S4096x1024, .f32⟩
  | .hbm, ⟨4, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Board.lean ====
/-
The cube of eight devices: who exchanges what with whom, what every buffer holds, and the rounds of
the semaphores.

Device `c` sits at `(c/4, c/2 % 2, c % 2)`.  It works on the quarter `c/2` of the rows.  It sends its quarter,
rounded, to the neighbour along z, adds what it receives, and passes the sum to its neighbours along x
and y; each of these then forwards half of what it received, so that every device ends with all four quarters.
A transfer is one of 32 `slots`: eight pieces of 128 rows for each of the four phases (z, x, y, forwarding).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Memref
public import Idealize.ShloMosaic.Lib.Tactic

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The devices -/

set_option backward.proofsInPublic true in
/-- The neighbour along x. -/
def nx (c : Dev nD) : Dev nD := ⟨(2 * ((c.val / 2) % 2) + (c.val % 2) + 4) - 4 * (c.val / 4), by have h : c.val < 8 := c.isLt; show _ < 8; omega⟩
set_option backward.proofsInPublic true in
/-- The neighbour along y. -/
def ny (c : Dev nD) : Dev nD := ⟨(4 * (c.val / 4) + (c.val % 2) + 2) - 2 * ((c.val / 2) % 2), by have h : c.val < 8 := c.isLt; show _ < 8; omega⟩
set_option backward.proofsInPublic true in
/-- The neighbour along z. -/
def nz (c : Dev nD) : Dev nD := ⟨(4 * (c.val / 4) + 2 * ((c.val / 2) % 2) + 1) - (c.val % 2), by have h : c.val < 8 := c.isLt; show _ < 8; omega⟩

/-- The neighbour in direction 0 (x), 1 (y), 2 (z). -/
def nb : Fin 3 → Dev nD → Dev nD
  | 0 => nx
  | 1 => ny
  | 2 => nz

/-- Being neighbours in a direction is mutual. -/
theorem nb_nb (d : Fin 3) (c : Dev nD) : nb d (nb d c) = c := by revert d c; decide
/-- The neighbour along x of the neighbour along x is the device. -/
theorem nx_nx (c : Dev nD) : nx (nx c) = c := nb_nb 0 c
/-- The same along y. -/
theorem ny_ny (c : Dev nD) : ny (ny c) = c := nb_nb 1 c
/-- The same along z. -/
theorem nz_nz (c : Dev nD) : nz (nz c) = c := nb_nb 2 c
/-- The steps along x and y commute. -/
theorem nx_ny (c : Dev nD) : nx (ny c) = ny (nx c) := by revert c; decide

/-- The neighbours in one direction, as a permutation of the devices. -/
def nbE (d : Fin 3) : Dev nD ≃ Dev nD := ⟨nb d, nb d, nb_nb d, nb_nb d⟩

/-! ## Buffers, pieces and slots -/

abbrev xM : Memref sig .tc .hbm S4096x1024 .f32 := Memref.whole main_arg0
abbrev oM : Memref sig .tc .vmem S4096x1024 .bf16 := Memref.whole cc0_stg0_0
abbrev lM : Memref sig .tc .vmem S1024x1024 .f32 := Memref.whole cc0_scratch0

/-- The six buffers of a quarter's size: what is sent along z, what comes along z, their sum, the quarters that come
    from x, from y, and the one forwarded. -/
def bM : Fin 6 → Memref sig .tc .vmem S1024x1024 .bf16
  | 0 => Memref.whole cc0_scratch1
  | 1 => Memref.whole cc0_scratch2
  | 2 => Memref.whole cc0_scratch3
  | 3 => Memref.whole cc0_scratch4
  | 4 => Memref.whole cc0_scratch5
  | 5 => Memref.whole cc0_scratch6

/-- A piece's rows lie in the buffer. -/
theorem inb_row (s : Fin 8) : ∀ a, (![128 * s.val, 0] : Fin 2 → Nat) a + S128x1024.size a ≤ S1024x1024.size a := by
  revert s; decide

/-- Rows `128 s` to `128 s + 127` of a quarter. -/
abbrev rc (s : Fin 8) : Rect S1024x1024 := Rect.unit (s := S1024x1024) ![128 * s.val, 0] S128x1024.size (inb_row s)

/-- All of a quarter. -/
abbrev rW : Rect S1024x1024 := Rect.unit (s := S1024x1024) ![0, 0] S1024x1024.size inb_S1024x1024_S1024x1024_0_0

/-- Piece `s` of buffer `b`. -/
def pM (b : Fin 6) (s : Fin 8) : Memref sig .tc .vmem S128x1024 .bf16 := (bM b).slice (rc s) (fun _ => rfl)

/-- A slot's piece. -/
def sub (i : Fin 32) : Fin 8 := ⟨i.val % 8, Nat.mod_lt _ (by decide)⟩
/-- A slot's phase: 0 along z, 1 along x, 2 along y, 3 forwarding. -/
def ph (i : Fin 32) : Fin 4 := ⟨i.val / 8, by have := i.isLt; omega⟩
/-- The buffer a slot's transfer reads. -/
def srcB (i : Fin 32) : Fin 6 := if i.val < 8 then 0 else if i.val < 24 then 2 else if i.val < 28 then 4 else 3
/-- The buffer a slot's transfer writes. -/
def dstB (i : Fin 32) : Fin 6 := if i.val < 8 then 1 else if i.val < 16 then 3 else if i.val < 24 then 4 else 5
/-- The direction a slot's transfer goes. -/
def dir (i : Fin 32) : Fin 3 := if i.val < 8 then 2 else if i.val < 16 then 0 else if i.val < 24 then 1 else if i.val < 28 then 0 else 1
/-- The half share of its source a slot's transfer takes with it: of the sum, the x transfer takes the left half, the
    y transfer the right half. -/
def half (i : Fin 32) : Bool := if i.val < 8 then true else if i.val < 16 then false else true
/-- The device a slot's transfer goes to. -/
abbrev tgt (c : Dev nD) (i : Fin 32) : Dev nD := nb (dir i) c

/-- A slot's target sends the same slot back. -/
theorem tgt_tgt (c : Dev nD) (i : Fin 32) : tgt (tgt c i) i = c := nb_nb _ _

/-- The two half shares. -/
def hs : Bool → PosShare TreeShare
  | false => fullShare.left
  | true => fullShare.right

/-! ## Contents -/

/-- Device `c`'s quarter of its argument's rows. -/
abbrev xq (c : Dev nD) : Memref sig .tc .hbm S1024x1024 .f32 :=
  xM.slice (Rect.unit (s := S4096x1024) (k0_off1 c) S1024x1024.size (k0_off1_inb c)) (fun _ => rfl)

/-- What the quarter holds. -/
def Lq (c : Dev nD) : S1024x1024.Idx → Elt F .f32 := (xq c).view.read (Elt F) (m ((c : Thread nD τ).loc main_arg0))
/-- What device `c` sends along z. -/
def Sv (c : Dev nD) : S1024x1024.Idx → Elt F .bf16 := k0_pay1 (Lq m c)
/-- The sum of the quarter over the two devices along z, as device `c` computes it. -/
def Rv (c : Dev nD) : S1024x1024.Idx → Elt F .bf16 :=
  truncf .bf16 (addf (Lq m c : FVec F S1024x1024 .f32) (extf .f32 (Sv m (nz c) : FVec F S1024x1024 .bf16) bitsLt_bf16_f32)) bitsLt_bf16_f32

/-- What each of the six buffers comes to hold. -/
def val (c : Dev nD) : Fin 6 → S1024x1024.Idx → Elt F .bf16
  | 0 => Sv m c
  | 1 => Sv m (nz c)
  | 2 => Rv m c
  | 3 => Rv m (nx c)
  | 4 => Rv m (ny c)
  | 5 => Rv m (nx (ny c))

/-- What a transfer writes at its target is what it reads at its source. -/
theorem val_tgt (c : Dev nD) (i : Fin 32) : val m (tgt c i) (dstB i) = val m c (srcB i) := by
  have h : (dir i, dstB i, srcB i) ∈ [((2 : Fin 3), (1 : Fin 6), (0 : Fin 6)), (0, 3, 2), (1, 4, 2), (0, 5, 4), (1, 5, 3)] := by
    revert i; decide
  simp only [List.mem_cons, Prod.mk.injEq, List.not_mem_nil, or_false] at h
  unfold tgt
  rcases h with ⟨h1, h2, h3⟩ | ⟨h1, h2, h3⟩ | ⟨h1, h2, h3⟩ | ⟨h1, h2, h3⟩ | ⟨h1, h2, h3⟩ <;> rw [h1, h2, h3] <;> simp only [val, nb]
  · rw [nz_nz]
  · rw [nx_nx]
  · rw [ny_ny]
  · rw [← nx_ny, nx_nx]
  · rw [ny_ny]

/-- Piece `s` of buffer `b` on device `c` at the values the buffer comes to hold. -/
def pc (c : Dev nD) (q : PosShare TreeShare) (b : Fin 6) (s : Fin 8) : sProp 𝕄 :=
  owns (c : Thread nD τ) (pM b s) q (fun j => val m c b ((rc s).emb j))

/-- Piece `s` of buffer `b` on device `c` at unknown values. -/
def blank (c : Dev nD) (b : Fin 6) (s : Fin 8) : sProp 𝕄 := iprop(∃ X, owns (c : Thread nD τ) (pM b s) fullShare X)

instance pc_storable (c : Dev nD) (q) (b) (s) : BI.Storable (upEmb : UEmb _ 𝕄) (pc m c q b s) := by unfold pc; infer_instance
omit [FloatOps F] in
instance blank_storable (c : Dev nD) (b) (s) : BI.Storable (upEmb : UEmb _ 𝕄) (blank (F := F) c b s) := by unfold blank; infer_instance

/-! ## The semaphores -/

abbrev barS : Sem sig := (SemArray.scalar (sig.barrier 0 rfl) : Sems sig S_).sem
set_option backward.proofsInPublic true in
/-- The semaphore of the local copy. -/
def locS : DmaSem sig := (⟨1, by decide⟩ : Fin 66)
set_option backward.proofsInPublic true in
/-- The semaphore a slot's transfer signals at its sender. -/
def sendS (i : Fin 32) : DmaSem sig := (⟨2 + i.val, by have := i.isLt; omega⟩ : Fin 66)
set_option backward.proofsInPublic true in
/-- The semaphore a slot's transfer signals at its receiver. -/
def recvS (i : Fin 32) : DmaSem sig := (⟨34 + i.val, by have := i.isLt; omega⟩ : Fin 66)

abbrev barCell (c : Dev nD) : GSem nD τ sig := ((c : Thread nD τ), .reg barS)
abbrev locCell (c : Dev nD) : GSem nD τ sig := ((c : Thread nD τ), .dma locS)
abbrev sendCell (c : Dev nD) (i : Fin 32) : GSem nD τ sig := ((c : Thread nD τ), .dma (sendS i))
abbrev recvCell (c : Dev nD) (i : Fin 32) : GSem nD τ sig := ((c : Thread nD τ), .dma (recvS i))

/-- The credit of one piece, -/
@[irreducible] def N : ℕ := (pM 0 0).view.dmaCredit
/-- and of the local copy. -/
@[irreducible] def NL : ℕ := (lM : Memref sig .tc .vmem S1024x1024 .f32).view.dmaCredit
/-- A piece's credit is positive. -/
theorem N_pos : 0 < N := by unfold N; exact View.dmaCredit_pos _ h_S128x1024
/-- The local copy's credit is positive. -/
theorem NL_pos : 0 < NL := by unfold NL; exact View.dmaCredit_pos _ h_S1024x1024
/-- Every piece of every buffer has one credit. -/
theorem credit_eq (b : Fin 6) (s : Fin 8) : (pM b s).view.dmaCredit = N := by unfold N; fin_cases b <;> rfl
/-- The credit of the local copy. -/
theorem creditL_eq : (lM : Memref sig .tc .vmem S1024x1024 .f32).view.dmaCredit = NL := by unfold NL; rfl

/-! ## The schedule -/

/-- What the neighbour in direction `d` hands over with its ready signal: the pieces it is to receive. -/
def barPay (c : Dev nD) (d : Fin 3) : sProp 𝕄 :=
  bigSep (Finset.univ.filter fun i : Fin 32 => dir i = d) fun i => blank (nb d c) (dstB i) (sub i)
/-- What the local copy leaves. -/
def locPay (c : Dev nD) : sProp 𝕄 :=
  iprop(owns (c : Thread nD τ) lM fullShare (Lq m c)
    ∗ ((xq c).view.loc (c : Thread nD τ) ↦[(xq c).view.set]{fullShare} m ((c : Thread nD τ).loc main_arg0)))

instance barPay_storable (c : Dev nD) (d) : BI.Storable (upEmb : UEmb _ 𝕄) (barPay (F := F) c d) := by unfold barPay; infer_instance
instance locPay_storable (c : Dev nD) : BI.Storable (upEmb : UEmb _ 𝕄) (locPay m c) := by unfold locPay; infer_instance

/-- The slot of a DMA semaphore's index counted from `k`. -/
def slotOf (k : ℕ) (q : ℕ) : Fin 32 := ⟨(q - k) % 32, Nat.mod_lt _ (by decide)⟩

/-- The payers of a semaphore's one round. -/
def dutyS : SemLoc sig → Finset (Fin 3)
  | .reg _ => Finset.univ
  | .dma q => if q.val = 0 then ∅ else {0}
/-- What each payer pays. -/
def amtS : SemLoc sig → ℕ
  | .reg _ => 1
  | .dma q => if q.val = 1 then NL else N
/-- What each payment hands over. -/
def payS (c : Dev nD) : SemLoc sig → Fin 3 → sProp 𝕄
  | .reg _, d => barPay c d
  | .dma q, _ =>
    if q.val = 1 then locPay m c
    else if q.val < 34 then pc m c (hs (half (slotOf 2 q.val))) (srcB (slotOf 2 q.val)) (sub (slotOf 2 q.val))
    else pc m c fullShare (dstB (slotOf 34 q.val)) (sub (slotOf 34 q.val))

/-- One round.  The barrier cell has three duties of one unit, one for each neighbour; every other cell one duty of the
    transfer's credit, whose payload is the half share lent (at the sender) or the landed piece (at the receiver). -/
def Rd : Rounds.Schedule (GSem nD τ sig) (Fin 3) 𝕄 where
  duties g r := if r = 0 ∧ g.1.2 = .tc then dutyS g.2 else ∅
  unitless _ := False
  amount g _ _ := amtS g.2
  payload g _ d := payS m g.1.1 g.2 d
  amount_pos g _ _ _ := by
    rcases g with ⟨t, s | q⟩
    · exact Nat.one_pos
    · show 0 < if q.val = 1 then NL else N
      split
      · exact NL_pos
      · exact N_pos

instance Rd_storable (g : GSem nD τ sig) (r : ℕ) (d : Fin 3) :
    BI.Storable (upEmb : UEmb _ 𝕄) ((Rd (F := F) m).payload g r d) := by
  show BI.Storable upEmb (payS m g.1.1 g.2 d)
  rcases g with ⟨t, s | q⟩
  · show BI.Storable upEmb (barPay t.1 d); infer_instance
  · dsimp only [payS]; (repeat' split) <;> infer_instance

section Sched
variable (c : Dev nD) (i : Fin 32)

theorem duties_bar : (Rd (F := F) m).duties (barCell c) 0 = Finset.univ := rfl
theorem duties_loc : (Rd (F := F) m).duties (locCell c) 0 = {0} := rfl
theorem duties_send : (Rd (F := F) m).duties (sendCell c i) 0 = {0} := by
  show (if (2 + i.val) = 0 then ∅ else {0}) = _
  rw [if_neg (by omega)]
theorem duties_recv : (Rd (F := F) m).duties (recvCell c i) 0 = {0} := by
  show (if (34 + i.val) = 0 then ∅ else {0}) = _
  rw [if_neg (by omega)]
/-- No semaphore has a second round. -/
theorem duties_later (g : GSem nD τ sig) : ∀ r, 1 ≤ r → (Rd (F := F) m).duties g r = ∅ :=
  fun r hr => if_neg fun h => by omega

theorem amount_bar (d : Fin 3) : (Rd (F := F) m).amount (barCell c) 0 d = 1 := rfl
theorem amount_loc (d : Fin 3) : (Rd (F := F) m).amount (locCell c) 0 d = NL := rfl
theorem amount_send (d : Fin 3) : (Rd (F := F) m).amount (sendCell c i) 0 d = N := by
  show (if (2 + i.val) = 1 then NL else N) = N
  rw [if_neg (by omega)]
theorem amount_recv (d : Fin 3) : (Rd (F := F) m).amount (recvCell c i) 0 d = N := by
  show (if (34 + i.val) = 1 then NL else N) = N
  rw [if_neg (by omega)]

/-- A cell with a single duty expects that duty's amount. -/
theorem expect_one (R : Rounds.Schedule (GSem nD τ sig) (Fin 3) 𝕄) (g : GSem nD τ sig) (h : R.duties g 0 = {0}) :
    R.expect g 0 = R.amount g 0 0 := by
  unfold Schedule.expect Schedule.amountOf; rw [h, Finset.sum_singleton]
/-- A barrier waits for three. -/
theorem expect_bar : (Rd (F := F) m).expect (barCell c) 0 = 3 := by
  unfold Schedule.expect Schedule.amountOf
  rw [duties_bar, Finset.sum_congr rfl fun d _ => amount_bar m c d]; rfl
/-- The local semaphore waits for the local copy. -/
theorem expect_loc : (Rd (F := F) m).expect (locCell c) 0 = NL :=
  (expect_one _ _ (duties_loc m c)).trans (amount_loc m c 0)
/-- A send semaphore waits for one piece. -/
theorem expect_send : (Rd (F := F) m).expect (sendCell c i) 0 = N :=
  (expect_one _ _ (duties_send m c i)).trans (amount_send m c i 0)
/-- A receive semaphore waits for one piece. -/
theorem expect_recv : (Rd (F := F) m).expect (recvCell c i) 0 = N :=
  (expect_one _ _ (duties_recv m c i)).trans (amount_recv m c i 0)

theorem slotOf_send : slotOf 2 (2 + i.val) = i := Fin.ext (by show (2 + i.val - 2) % 32 = i.val; have := i.isLt; omega)
theorem slotOf_recv : slotOf 34 (34 + i.val) = i := Fin.ext (by show (34 + i.val - 34) % 32 = i.val; have := i.isLt; omega)

theorem payload_bar (d : Fin 3) : (Rd (F := F) m).payload (barCell c) 0 d = barPay c d := rfl
theorem payload_loc (d : Fin 3) : (Rd (F := F) m).payload (locCell c) 0 d = locPay m c := rfl
theorem payload_send (d : Fin 3) : (Rd (F := F) m).payload (sendCell c i) 0 d = pc m c (hs (half i)) (srcB i) (sub i) := by
  show (if (2 + i.val) = 1 then locPay m c
    else if (2 + i.val) < 34 then pc m c (hs (half (slotOf 2 (2 + i.val)))) (srcB (slotOf 2 (2 + i.val))) (sub (slotOf 2 (2 + i.val)))
    else pc m c fullShare (dstB (slotOf 34 (2 + i.val))) (sub (slotOf 34 (2 + i.val)))) = _
  rw [if_neg (by omega), if_pos (by have := i.isLt; omega), slotOf_send]
theorem payload_recv (d : Fin 3) : (Rd (F := F) m).payload (recvCell c i) 0 d = pc m c fullShare (dstB i) (sub i) := by
  show (if (34 + i.val) = 1 then locPay m c
    else if (34 + i.val) < 34 then pc m c (hs (half (slotOf 2 (34 + i.val)))) (srcB (slotOf 2 (34 + i.val))) (sub (slotOf 2 (34 + i.val)))
    else pc m c fullShare (dstB (slotOf 34 (34 + i.val))) (sub (slotOf 34 (34 + i.val)))) = _
  rw [if_neg (by omega), if_neg (by omega), slotOf_recv]

/-- All that a barrier hands over. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide)]
  rfl
/-- All that the local semaphore hands over. -/
theorem rest_loc : bigSep ((Rd (F := F) m).duties (locCell c) 0 \ ∅) (fun d => (Rd (F := F) m).payload (locCell c) 0 d) = locPay m c := by
  rw [Finset.sdiff_empty, duties_loc, bigSep_singleton, payload_loc]
/-- All that a send semaphore hands over. -/
theorem rest_send : bigSep ((Rd (F := F) m).duties (sendCell c i) 0 \ ∅) (fun d => (Rd (F := F) m).payload (sendCell c i) 0 d)
    = pc m c (hs (half i)) (srcB i) (sub i) := by
  rw [Finset.sdiff_empty, duties_send, bigSep_singleton, payload_send]
/-- All that a receive semaphore hands over. -/
theorem rest_recv : bigSep ((Rd (F := F) m).duties (recvCell c i) 0 \ ∅) (fun d => (Rd (F := F) m).payload (recvCell c i) 0 d)
    = pc m c fullShare (dstB i) (sub i) := by
  rw [Finset.sdiff_empty, duties_recv, bigSep_singleton, payload_recv]

end Sched

/-! ## Levels, and what a device owes -/

/-- The levels are given on the devices' main threads. -/
def L (g : GSem nD τ sig) : Finset Unit := if g.1.2 = .tc then {()} else ∅
/-- The level of a semaphore: send and staging semaphores 0, the barrier 1, then the receive semaphores by phase. -/
def lvS : SemLoc sig → ℕ
  | .reg _ => 1
  | .dma q => if q.val < 34 then 0 else if q.val < 42 then 2 else if q.val < 58 then 3 else 4
/-- The level of a semaphore. -/
def lv (g : GSem nD τ sig) (_ : Unit) : ℕ := lvS g.2
/-- The level of a slot's receive semaphore. -/
def rk (i : Fin 32) : ℕ := if i.val < 8 then 2 else if i.val < 24 then 3 else 4

theorem L_of_ne (g : GSem nD τ sig) (h : g.1.2 ≠ .tc) : L g = ∅ := if_neg h
theorem L_tc (c : Dev nD) (sm : SemLoc sig) : L ((c : Thread nD τ), sm) = {()} := if_pos rfl

/-- A receive semaphore's level is its slot's rank. -/
theorem lvS_recv (i : Fin 32) : lvS (.dma (recvS i)) = rk i := by revert i; decide
/-- A send semaphore is at the bottom. -/
theorem lvS_send (i : Fin 32) : lvS (.dma (sendS i)) = 0 := by revert i; decide

/-- What device `c` owes while the slots `T` are unsent. -/
def OB (c : Dev nD) (T : Finset (Fin 32)) : CellTallies nD τ sig Unit := ∑ i ∈ T, tallyAt (recvCell (tgt c i) i) () N

/-- What is owed is owed to the unsent slots' receivers. -/
theorem OB_pos {c : Dev nD} {T : Finset (Fin 32)} {g : GSem nD τ sig} {u : Unit} (h : 0 < OB c T g u) : ∃ i ∈ T, g = recvCell (tgt c i) i := by
  unfold OB at h
  rw [Finset.sum_apply, Finsupp.finset_sum_apply] at h
  obtain ⟨i, hi, hpos⟩ := Finset.exists_ne_zero_of_sum_ne_zero (Nat.pos_iff_ne_zero.mp h)
  refine ⟨i, hi, ?_⟩
  rw [tallyAt_apply] at hpos
  by_contra hn
  exact hpos (if_neg fun h' => hn h'.1)

/-- Sending a slot takes its debt away. -/
theorem OB_erase {c : Dev nD} {T : Finset (Fin 32)} {i : Fin 32} (h : i ∈ T) : OB c T = OB c (T.erase i) + tallyAt (recvCell (tgt c i) i) () N := by
  unfold OB; exact (Finset.sum_erase_add T _ h).symm

/-- A wait on a semaphore below the levels of all the slots unsent is allowed. -/
theorem mayWait (c : Dev nD) (sm : SemLoc sig) (T : Finset (Fin 32)) (h : ∀ i ∈ T, lvS sm < rk i) :
    (levAts L lv : sProp 𝕄) ⊢ MayWait (c : Thread nD τ) sm () (OB c T) :=
  MayOwe.of_cut (L := L) (lev := lv) (lvS sm) (fun p hp => by rw [Finset.mem_singleton.mp hp, L_tc]; exact Finset.mem_singleton_self _)
    (fun g u hg => by obtain ⟨i, -, rfl⟩ := OB_pos hg; exact Finset.mem_singleton_self _)
    (fun p hp => by rw [Finset.mem_singleton.mp hp]; exact le_refl _)
    (fun g u hg => by
      obtain ⟨i, hi, rfl⟩ := OB_pos hg
      exact lt_of_lt_of_eq (h i hi) (lvS_recv i).symm)

end Cert.Cube

end
-- ==== Proof.Access.lean ====
/-
Loads and stores through owned memrefs, whatever the memref.
-/
module

public import proofs.«01_k».proof.Proof.Board

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA Auth

variable {F : FTy → Type} [FloatOps F]

local notation "𝕄" => MT nD τ sig Unit (Elt F) ℕ UU ℕ

/-- The weakest precondition of a TensorCore program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD) {α : Type} {Q : α → sProp (MT nD τ sig Unit (Elt F) ℕ UU ℕ)}
variable {cs : CoreSpace} {sh : Shape} {e : EltTy}

/-- What owning a memref is. -/
theorem owns_open (M : Memref sig .tc cs sh e) (q : PosShare TreeShare) (X : sh.Idx → Elt F e) :
    (owns (c : Thread nD τ) M q X : sProp 𝕄)
      ⊢ iprop(∃ f, ⌜M.view.read (Elt F) f = X⌝ ∗ (M.view.loc (c : Thread nD τ) ↦[M.view.set]{q} f)) := .rfl

/-- Owning a memref at two shares that make up a share is owning it at that share. -/
theorem owns_join_share (M : Memref sig .tc cs sh e) (X : sh.Idx → Elt F e) {q q₁ q₂ : PosShare TreeShare} (h : q ∈ q₁ ·? q₂) :
    iprop(owns (c : Thread nD τ) M q₁ X ∗ owns (c : Thread nD τ) M q₂ X) ⊢ (owns (c : Thread nD τ) M q X : sProp 𝕄) := by
  iintro ⟨H1, H2⟩
  ihave H1' := (owns_open c M q₁ X) $$ H1
  ihave H2' := (owns_open c M q₂ X) $$ H2
  icases H1' with ⟨%f, %hf, H1⟩
  icases H2' with ⟨%g, %hg, H2⟩
  have e : (M.view.loc (c : Thread nD τ) ↦[M.view.set]{q₂} g : sProp 𝕄) = (M.view.loc (c : Thread nD τ) ↦[M.view.set]{q₂} f) :=
    pointsTo_congr fun i hi => by
      rw [View.set, Finset.mem_map] at hi
      obtain ⟨x, -, rfl⟩ := hi
      have := congrFun (hg.trans hf.symm) x
      simp only [View.read] at this
      exact (cast_inj _).mp this
  ihave H2 := (Entails.of_eq e) $$ H2
  rw [← hf]
  iapply (owns_intro (c : Thread nD τ) M q f)
  iapply (pointsTo_share h).2
  isplitl [H1] <;> iassumption

/-- Owning a memref at a share is owning it at two shares that make it up. -/
theorem owns_split_share (M : Memref sig .tc cs sh e) (X : sh.Idx → Elt F e) {q q₁ q₂ : PosShare TreeShare} (h : q ∈ q₁ ·? q₂) :
    (owns (c : Thread nD τ) M q X : sProp 𝕄) ⊢ iprop(owns (c : Thread nD τ) M q₁ X ∗ owns (c : Thread nD τ) M q₂ X) := by
  iintro H
  ihave H' := (owns_open c M q X) $$ H
  icases H' with ⟨%f, %hf, H⟩
  ihave H' := (pointsTo_share h).1 $$ H
  icases H' with ⟨H1, H2⟩
  rw [← hf]
  isplitl [H1]
  · iapply (owns_intro (c : Thread nD τ) M q₁ f); iexact H1
  · iapply (owns_intro (c : Thread nD τ) M q₂ f); iexact H2

/-- A load of an owned slice reads what is owned. -/
theorem load_slice (M : Memref sig .tc cs sh e) (r : Rect sh) (hr : ∀ a, r.stride a = 1) (q : PosShare TreeShare)
    (X : r.shape.Idx → Elt F e) {hl : M.view.LoadsAt r.toLoadRect} {k : (r.shape.Idx → Elt F e) → Prog (TpuEff nD τ sig (Elt F) Λ₀ .tc) α} :
    (owns (c : Thread nD τ) (M.slice r hr) q X : sProp 𝕄)
      ⊢ iprop((owns (c : Thread nD τ) (M.slice r hr) q X -∗ WP c (k X) Q) -∗ WP c (.op (.load M r.toLoadRect hl) k) Q) := by
  iintro H Hk
  ihave H' := (owns_open c (M.slice r hr) q X) $$ H
  icases H' with ⟨%f, %hf, H⟩
  iapply (wp_load_rect 𝒱₀ (c : Thread nD τ) none Set.univ (m := M) (r := r) (S := (M.access r).set) (f := f) subset_rfl) $$ H
  iintro H
  rw [← hf]
  iapply Hk
  iapply (owns_intro (c : Thread nD τ) (M.slice r hr) q f); iexact H

/-- A load of a part of an owned memref reads that part. -/
theorem load_sub (M : Memref sig .tc cs sh e) (r : Rect sh) (q : PosShare TreeShare)
    (X : sh.Idx → Elt F e) {hl : M.view.LoadsAt r.toLoadRect} {k : (r.shape.Idx → Elt F e) → Prog (TpuEff nD τ sig (Elt F) Λ₀ .tc) α} :
    (owns (c : Thread nD τ) M q X : sProp 𝕄)
      ⊢ iprop((owns (c : Thread nD τ) M q X -∗ WP c (k (fun j => X (r.emb j))) Q) -∗ WP c (.op (.load M r.toLoadRect hl) k) Q) := by
  iintro H Hk
  ihave H' := (owns_open c M q X) $$ H
  icases H' with ⟨%f, %hf, H⟩
  iapply (wp_load 𝒱₀ (c : Thread nD τ) none Set.univ (m := M) (r := r.toLoadRect) (S := M.view.set) (f := f) (M.view.setOn_subset_set _)) $$ H
  iintro H
  rw [← hf]
  iapply Hk
  iapply (owns_intro (c : Thread nD τ) M q f); iexact H

/-- A store to an owned slice leaves what is stored. -/
theorem store_slice (M : Memref sig .tc cs sh e) (r : Rect sh) (hr : ∀ a, r.stride a = 1)
    (X w : r.shape.Idx → Elt F e) {hx : (M.access r).Stores Finset.univ} {hm : Finset.univ = Finset.univ ∨ ∀ a, r.stride a = 1}
    {k : PUnit → Prog (TpuEff nD τ sig (Elt F) Λ₀ .tc) α} :
    (owns (c : Thread nD τ) (M.slice r hr) fullShare X : sProp 𝕄)
      ⊢ iprop((owns (c : Thread nD τ) (M.slice r hr) fullShare w -∗ WP c (k ⟨⟩) Q)
          -∗ WP c (.op (.store M r w Finset.univ hx hm) k) Q) := by
  iintro H Hk
  ihave H' := (owns_open c (M.slice r hr) fullShare X) $$ H
  icases H' with ⟨%f, %hf, H⟩
  iapply (wp_store 𝒱₀ (c : Thread nD τ) none Set.univ (m := M) (r := r) (w := w) (Mk := Finset.univ) (S := (M.access r).set) (f := f)
    subset_rfl) $$ H
  iintro H
  iapply Hk
  have e : (M.access r).read (Elt F) ((M.access r).write (Elt F) f w Finset.univ) = w := View.read_write_univ f w
  ihave H := (owns_intro (c : Thread nD τ) (M.slice r hr) fullShare ((M.access r).write (Elt F) f w Finset.univ)) $$ H
  iapply (Entails.of_eq (congrArg (fun Y => (owns (c : Thread nD τ) (M.slice r hr) fullShare Y : sProp 𝕄)) e))
  iexact H

/-- A store to a part of an owned memref leaves the rest. -/
theorem store_sub (M : Memref sig .tc cs sh e) (r : Rect sh) (hr : ∀ a, r.stride a = 1)
    (X : sh.Idx → Elt F e) (w : r.shape.Idx → Elt F e) {hx : (M.access r).Stores Finset.univ}
    {hm : Finset.univ = Finset.univ ∨ ∀ a, r.stride a = 1} {k : PUnit → Prog (TpuEff nD τ sig (Elt F) Λ₀ .tc) α} :
    (owns (c : Thread nD τ) M fullShare X : sProp 𝕄)
      ⊢ iprop((owns (c : Thread nD τ) M fullShare (r.overlay X w) -∗ WP c (k ⟨⟩) Q)
          -∗ WP c (.op (.store M r w Finset.univ hx hm) k) Q) := by
  iintro H Hk
  ihave H' := (owns_slice_split (c : Thread nD τ) M fullShare r hr X) $$ H
  icases H' with ⟨Hs, ⟨%f, %hf, Hr⟩⟩
  iapply (store_slice c M r hr (fun i => X (r.emb i)) w) $$ Hs
  iintro Hs
  iapply Hk
  rw [← hf]
  iapply (owns_slice_join (c : Thread nD τ) M fullShare r hr w f)
  isplitl [Hs] <;> iassumption

end Cert.Cube

end
-- ==== Proof.Plan.lean ====
/-
The program of a device as a list of events, and what the device holds after each.
-/
module

public import proofs.«01_k».proof.Proof.Access

@[expose] public section

namespace Cert.Cube

open Idealize.ShloMosaic

/-- What a device does after the barrier: transfers out, waits for transfers in and for lent halves to come back, loads
    of the quarter, of pieces, of the sum's old contents, of a whole buffer, of the result's old contents, and stores to
    the sum and to the result (a piece of the own quarter, or a received quarter). -/
inductive Ev
  | send (i : Fin 32) | recv (i : Fin 32) | back (i : Fin 32)
  | ldL (s : Fin 8) | ldP (s : Fin 8) | ldR (s : Fin 8) | ldW (k : Fin 4) | ldO
  | stR (s : Fin 8) | stO (s : Fin 8) | stQ (k : Fin 4)

/-- The piece-by-piece part: receive along z, sum, send along x and y, store. -/
def stage (s : Fin 8) (x y : Fin 32) (z : Fin 32) : List Ev :=
  [.recv z, .ldL s, .ldP s, .ldR s, .stR s, .send x, .send y, .ldO, .stO s]

/-- All the events in program order. -/
def evs : List Ev :=
  [.send 0, .send 1, .send 2, .send 3, .send 4, .send 5, .send 6, .send 7] ++
  (stage 0 8 16 0 ++ (stage 1 9 17 1 ++ (stage 2 10 18 2 ++ (stage 3 11 19 3 ++
  (stage 4 12 20 4 ++ (stage 5 13 21 5 ++ (stage 6 14 22 6 ++ (stage 7 15 23 7 ++
  [.recv 16, .send 24, .recv 17, .send 25, .recv 18, .send 26, .recv 19, .send 27,
   .recv 12, .send 28, .recv 13, .send 29, .recv 14, .send 30, .recv 15, .send 31,
   .recv 8, .recv 9, .recv 10, .recv 11, .recv 20, .recv 21, .recv 22, .recv 23,
   .ldW 1, .ldO, .stQ 1, .ldW 2, .ldO, .stQ 2,
   .recv 24, .recv 25, .recv 26, .recv 27, .recv 28, .recv 29, .recv 30, .recv 31,
   .ldW 3, .ldO, .stQ 3,
   .back 0, .back 1, .back 2, .back 3, .back 4, .back 5, .back 6, .back 7,
   .back 8, .back 16, .back 9, .back 17, .back 10, .back 18, .back 11, .back 19,
   .back 12, .back 20, .back 13, .back 21, .back 14, .back 22, .back 15, .back 23,
   .back 24, .back 25, .back 26, .back 27, .back 28, .back 29, .back 30, .back 31]))))))))

/-- The buffer that comes to hold quarter `k` of the result: the own sum, from x, from y, the forwarded one. -/
def qb : Fin 4 → Fin 6
  | 0 => 2
  | 1 => 3
  | 2 => 4
  | 3 => 5

/-- What a device holds: the slots unsent, unreceived, received, not come back, in flight, come back; the half shares of
    pieces at their values; the pieces of the sum unwritten; the pieces of the result written. -/
structure ST where
  T : Finset (Fin 32)
  R : Finset (Fin 32)
  Rz : Finset (Fin 32)
  V : Finset (Fin 32)
  C : Finset (Fin 32)
  Vz : Finset (Fin 32)
  A : Finset (Fin 6 × Fin 8 × Bool)
  B : Finset (Fin 8)
  O : Finset (Fin 4 × Fin 8)

/-- What an event makes of what is held. -/
def ap (σ : ST) : Ev → ST
  | .send i => { σ with T := σ.T.erase i, A := σ.A.erase (srcB i, sub i, half i), C := insert i σ.C }
  | .recv i => { σ with R := σ.R.erase i, Rz := insert i σ.Rz, A := insert (dstB i, sub i, false) (insert (dstB i, sub i, true) σ.A) }
  | .back i => { σ with V := σ.V.erase i, C := σ.C.erase i, Vz := insert i σ.Vz, A := insert (srcB i, sub i, half i) σ.A }
  | .stR s => { σ with B := σ.B.erase s, A := insert (2, s, false) (insert (2, s, true) σ.A) }
  | .stO s => { σ with O := insert (0, s) σ.O }
  | .stQ k => { σ with O := σ.O ∪ Finset.univ.image fun s => (k, s) }
  | _ => σ

/-- Whether the event can happen: what it takes is held, what it leaves is not, and a wait is below what is still owed. -/
def ok (σ : ST) : Ev → Bool
  | .send i => decide (i ∈ σ.T) && decide ((srcB i, sub i, half i) ∈ σ.A) && decide (i ∉ σ.C)
  | .recv i => decide (i ∈ σ.R) && decide (i ∉ σ.Rz) && decide ((dstB i, sub i, false) ∉ σ.A) && decide ((dstB i, sub i, true) ∉ σ.A)
      && decide (∀ j ∈ σ.T, rk i < rk j)
  | .back i => decide (i ∈ σ.V) && decide (i ∈ σ.C) && decide (i ∉ σ.Vz) && decide ((srcB i, sub i, half i) ∉ σ.A)
  | .stR s => decide (s ∈ σ.B) && decide ((2, s, false) ∉ σ.A) && decide ((2, s, true) ∉ σ.A)
  | .ldP s => decide ((1, s, false) ∈ σ.A)
  | .ldR s => decide (s ∈ σ.B)
  | .ldW k => decide (∀ s, (qb k, s, false) ∈ σ.A)
  | _ => true

/-- What is held after the barrier. -/
def S0 : ST where
  T := Finset.univ
  R := Finset.univ
  Rz := ∅
  V := Finset.univ
  C := ∅
  Vz := ∅
  A := Finset.univ.image fun p : Fin 8 × Bool => (0, p.1, p.2)
  B := Finset.univ
  O := ∅

/-- What is held after the first `n` events. -/
def S (n : ℕ) : ST := (evs.take n).foldl ap S0

/-- One event further. -/
theorem S_succ {n : ℕ} {e : Ev} (h : evs[n]? = some e) : S (n + 1) = ap (S n) e := by
  unfold S
  rw [List.take_add_one, h]
  simp only [Option.toList_some, List.foldl_append, List.foldl_cons, List.foldl_nil]

/-- Every event can happen, from what is held when its turn comes. -/
def allOk : ST → List Ev → Bool
  | _, [] => true
  | σ, e :: es => ok σ e && allOk (ap σ e) es

/-- If every event of a list can happen, so can the one at `n`. -/
theorem allOk_at : ∀ (es : List Ev) (σ : ST) (n : ℕ) (e : Ev), allOk σ es = true → es[n]? = some e →
    ok ((es.take n).foldl ap σ) e = true
  | [], _, _, _, _, h => by simp at h
  | e' :: es, σ, 0, e, hok, h => by
    simp only [List.getElem?_cons_zero, Option.some.injEq] at h
    subst h
    exact (Bool.and_eq_true _ _ ▸ (show (ok σ e' && allOk (ap σ e') es) = true from hok)).1
  | e' :: es, σ, n + 1, e, hok, h => by
    simp only [List.getElem?_cons_succ] at h
    exact allOk_at es (ap σ e') n e (Bool.and_eq_true _ _ ▸ (show (ok σ e' && allOk (ap σ e') es) = true from hok)).2 h

set_option maxRecDepth 100000 in
/-- Every event of the program can happen. -/
theorem all_ok : allOk S0 evs = true := by decide +kernel

/-- The event at `n` can happen when its turn comes. -/
theorem S_ok {n : ℕ} {e : Ev} (h : evs[n]? = some e) : ok (S n) e = true := allOk_at evs S0 n e all_ok h

set_option maxRecDepth 100000 in
/-- At the end nothing is unsent, unreceived or away, and every piece is held at both halves. -/
theorem S_end : (S 153).T = ∅ ∧ (S 153).R = ∅ ∧ (S 153).Rz = Finset.univ ∧ (S 153).V = ∅ ∧ (S 153).C = ∅ ∧ (S 153).Vz = Finset.univ
    ∧ (S 153).A = Finset.univ ∧ (S 153).B = ∅ ∧ (S 153).O = Finset.univ := by decide +kernel

end Cert.Cube
-- ==== Proof.Steps.lean ====
/-
What a device holds while it runs, and one rule for each event.
-/
module

public import proofs.«01_k».proof.Proof.Plan

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA Auth

variable {F : FTy → Type} [FloatOps F]

local notation "𝕄" => MT nD τ sig Unit (Elt F) ℕ UU ℕ

variable (m : (ℓ : Loc nD τ sig) → Buf (Elt F) ℓ)

/-! ## The records every device holds -/

/-- The semaphores of a device by number: the barrier, then the DMA semaphores 1 to 65. -/
def csem (k : Fin 66) : SemLoc sig := if k.val = 0 then .reg barS else .dma k
/-- The cells by number. -/
def cellAt (p : Dev nD × Fin 66) : GSem nD τ sig := ((p.1 : Thread nD τ), csem p.2)

/-- The number of a slot's send semaphore, -/
def kS (i : Fin 32) : Fin 66 := ⟨2 + i.val, by have := i.isLt; omega⟩
/-- and of its receive semaphore. -/
def kR (i : Fin 32) : Fin 66 := ⟨34 + i.val, by have := i.isLt; omega⟩

theorem cellAt_bar (c : Dev nD) : cellAt (c, 0) = barCell c := rfl
theorem cellAt_loc (c : Dev nD) : cellAt (c, 1) = locCell c := rfl
theorem cellAt_send (c : Dev nD) (i : Fin 32) : cellAt (c, kS i) = sendCell c i := by
  unfold cellAt csem; rw [if_neg (by show ¬(2 + i.val = 0); omega)]; rfl
theorem cellAt_recv (c : Dev nD) (i : Fin 32) : cellAt (c, kR i) = recvCell c i := by
  unfold cellAt csem; rw [if_neg (by show ¬(34 + i.val = 0); omega)]; rfl

/-- Every cell's invariant, that every cell is at its round, and the levels. -/
def recs (K : Dev nD × Fin 66 → ℕ) : sProp 𝕄 :=
  iprop((bigSep Finset.univ fun p : Dev nD × Fin 66 => cellInv ER (Rd (F := F) m) (K p) (cellAt p))
    ∗ (bigSep Finset.univ fun p : Dev nD × Fin 66 => reached ER (cellAt p) 0) ∗ levAts L lv)

instance recs_persistent (K : Dev nD × Fin 66 → ℕ) : BI.Persistent (recs m K) := by unfold recs; infer_instance

/-- Each semaphore's invariant is among the records. -/
theorem all_inv (K : Dev nD × Fin 66 → ℕ) (p : Dev nD × Fin 66) :
    (bigSep Finset.univ fun p : Dev nD × Fin 66 => (cellInv ER (Rd (F := F) m) (K p) (cellAt p) : sProp 𝕄)) ⊢ cellInv ER (Rd (F := F) m) (K p) (cellAt p) :=
  bigSep_elim (Finset.mem_univ p)
omit [FloatOps F] in
/-- Each semaphore's first round is reached. -/
theorem all_reached (p : Dev nD × Fin 66) :
    (bigSep Finset.univ fun p : Dev nD × Fin 66 => (reached ER (cellAt p) 0 : sProp 𝕄)) ⊢ reached ER (cellAt p) 0 :=
  bigSep_elim (Finset.mem_univ p)

/-- Each cell's invariant is among the records, -/
theorem recs_inv (K : Dev nD × Fin 66 → ℕ) (p : Dev nD × Fin 66) {g : GSem nD τ sig} (h : cellAt p = g) :
    recs m K ⊢ cellInv ER (Rd (F := F) m) (K p) g := by
  subst h
  unfold recs
  iintro ⟨H, -, -⟩
  iapply (all_inv m K p)
  iexact H

/-- and that the cell is at its round. -/
theorem recs_reached (K : Dev nD × Fin 66 → ℕ) (p : Dev nD × Fin 66) {g : GSem nD τ sig} (h : cellAt p = g) :
    recs m K ⊢ (reached ER g 0 : sProp 𝕄) := by
  subst h
  unfold recs
  iintro ⟨-, H, -⟩
  iapply (all_reached p)
  iexact H

/-- The levels are among the records. -/
theorem recs_lev (K : Dev nD × Fin 66 → ℕ) : recs m K ⊢ (levAts L lv : sProp 𝕄) := by
  unfold recs
  iintro ⟨-, -, H⟩
  iexact H

/-! ## The result -/

/-- The number of the quarter that result part `k` of device `c` fills: its own, and those of its neighbours along x,
    along y and along both. -/
def qn (c : Dev nD) : Fin 4 → ℕ
  | 0 => c.val / 2
  | 1 => (nx c).val / 2
  | 2 => (ny c).val / 2
  | 3 => (nx (ny c)).val / 2

/-- There are four quarters. -/
theorem qn_lt (c : Dev nD) (k : Fin 4) : qn c k < 4 := by revert c k; decide

/-- Row `1024 q + r`, column `l` of the result. -/
def big (q : ℕ) (hq : q < 4) (j : S1024x1024.Idx) : S4096x1024.Idx :=
  fun a => ⟨(![1024 * q, 0] : Fin 2 → ℕ) a + (j a).val, by
    have h0 : (j 0).val < 1024 := (j 0).isLt
    have h1 : (j 1).val < 1024 := (j 1).isLt
    match a with
    | 0 => show 1024 * q + (j 0).val < 4096; omega
    | 1 => show 0 + (j 1).val < 1024; omega⟩

/-- The pieces `O` of the result are at their values. -/
def good (c : Dev nD) (O : Finset (Fin 4 × Fin 8)) (Z : S4096x1024.Idx → Elt F .bf16) : Prop :=
  ∀ p ∈ O, ∀ j : S128x1024.Idx, Z (big (qn c p.1) (qn_lt c p.1) ((rc p.2).emb j)) = val m c (qb p.1) ((rc p.2).emb j)

/-- The result's staging buffer, its pieces `O` at their values. -/
def outSt (c : Dev nD) (O : Finset (Fin 4 × Fin 8)) : sProp 𝕄 :=
  iprop(∃ Z, ⌜good m c O Z⌝ ∗ owns (c : Thread nD τ) oM fullShare Z)

/-! ## What a device holds -/

/-- What the events after the barrier leave alone: the argument, and the barrier and local copy semaphores at zero. -/
def fr (c : Dev nD) : sProp 𝕄 :=
  iprop((((c : Thread nD τ).loc main_arg0) ↦{fullShare} m ((c : Thread nD τ).loc main_arg0))
    ∗ semVal (barCell c) 0 ∗ semVal (locCell c) 0)

/-- A device's holdings. -/
def St (c : Dev nD) (K : Dev nD × Fin 66 → ℕ) (σ : ST) : sProp 𝕄 :=
  iprop(recs m K
    ∗ (∃ W, owes (c : Thread nD τ) (OB c σ.T) W)
    ∗ (bigSep σ.T fun i => iprop(dutyTok ER (sendCell c i) 0 0 ∗ dutyTok ER (recvCell (tgt c i) i) 0 0 ∗ blank (tgt c i) (dstB i) (sub i)))
    ∗ (bigSep σ.R fun i => iprop(atPos ER (recvCell c i) 0 ∅ 0 ∗ cred (tallyAt (recvCell c i) () N)))
    ∗ (bigSep σ.Rz fun i => semVal (recvCell c i) 0)
    ∗ (bigSep σ.V fun i => atPos ER (sendCell c i) 0 ∅ 0)
    ∗ (bigSep σ.C fun i => cred (tallyAt (sendCell c i) () N))
    ∗ (bigSep σ.Vz fun i => semVal (sendCell c i) 0)
    ∗ (bigSep σ.A fun p => pc m c (hs p.2.2) p.1 p.2.1)
    ∗ (bigSep σ.B fun s => blank c 2 s)
    ∗ outSt m c σ.O
    ∗ owns (c : Thread nD τ) lM fullShare (Lq m c)
    ∗ fr m c)

/-- A piece at full share is its two halves. -/
theorem pc_halves (c : Dev nD) (b : Fin 6) (s : Fin 8) : pc m c fullShare b s ⊢ iprop(pc m c (hs false) b s ∗ pc m c (hs true) b s) :=
  owns_split_share c (pM b s) _ (PosShare.mem_left_op_right fullShare)
/-- Two half shares of a piece are the piece. -/
theorem pc_whole (c : Dev nD) (b : Fin 6) (s : Fin 8) : iprop(pc m c (hs false) b s ∗ pc m c (hs true) b s) ⊢ pc m c fullShare b s :=
  owns_join_share c (pM b s) _ (PosShare.mem_left_op_right fullShare)

/-- One summand out of a sum, -/
theorem sep_out {I : Type} [DecidableEq I] {s : Finset I} {i : I} (hi : i ∈ s) (Φ : I → sProp 𝕄) :
    bigSep s Φ = iprop(Φ i ∗ bigSep (s.erase i) Φ) := bigSep_erase hi
/-- and one in. -/
theorem sep_in {I : Type} [DecidableEq I] {s : Finset I} {i : I} (hi : i ∉ s) (Φ : I → sProp 𝕄) :
    bigSep (insert i s) Φ = iprop(Φ i ∗ bigSep s Φ) := bigSep_insert hi

/-- A transfer of a piece counts its credit. -/
theorem amount_eq (b : Fin 6) (s : Fin 8) (q : DmaSem sig) : (pM b s).view.amount (.dma q) = N := credit_eq b s

/-! ## Pieces and buffers -/

/-- The rectangles of pieces are disjoint, -/
theorem rc_disjoint (s t : Fin 8) (h : s ≠ t) : Disjoint (rc s).set (rc t).set :=
  Rect.disjoint_of_axis _ _ 0 fun j₁ h₁ j₂ h₂ e => h (Fin.ext (by
    have h₁ : j₁ < 128 := h₁
    have h₂ : j₂ < 128 := h₂
    have e : 128 * s.val + 1 * j₁ = 128 * t.val + 1 * j₂ := e
    omega))
/-- and cover the buffer. -/
theorem rc_cover : (Finset.univ : Finset (Fin 8)).biUnion (fun s => (rc s).set) = Finset.univ := by
  refine Finset.eq_univ_iff_forall.mpr fun i => Finset.mem_biUnion.mpr ⟨⟨(i 0).val / 128, ?_⟩, Finset.mem_univ _, Rect.mem_set_unit.mpr fun a => ?_⟩
  · have h : (i 0).val < 1024 := (i 0).isLt
    omega
  · match a with
    | 0 =>
      have h : (i 0).val < 1024 := (i 0).isLt
      show 128 * ((i 0).val / 128) ≤ (i 0).val ∧ (i 0).val < 128 * ((i 0).val / 128) + 128
      omega
    | 1 =>
      have h : (i 1).val < 1024 := (i 1).isLt
      show 0 ≤ (i 1).val ∧ (i 1).val < 0 + 1024
      omega

/-- A buffer owned is its pieces owned, -/
theorem pieces (c : Dev nD) (q : PosShare TreeShare) (b : Fin 6) (X : S1024x1024.Idx → Elt F .bf16) :
    (owns (c : Thread nD τ) (bM b) q X : sProp 𝕄)
      ⊢ bigSep Finset.univ fun s => owns (c : Thread nD τ) (pM b s) q (fun j => X ((rc s).emb j)) :=
  owns_rects (c : Thread nD τ) (bM b) q rc (fun _ _ => rfl) rc_disjoint rc_cover X
/-- and conversely. -/
theorem unpieces (c : Dev nD) (q : PosShare TreeShare) (b : Fin 6) (X : S1024x1024.Idx → Elt F .bf16) :
    bigSep Finset.univ (fun s => owns (c : Thread nD τ) (pM b s) q (fun j => X ((rc s).emb j)))
      ⊢ (owns (c : Thread nD τ) (bM b) q X : sProp 𝕄) :=
  owns_of_rects (c : Thread nD τ) (bM b) q rc (fun _ _ => rfl) rc_disjoint rc_cover X

/-! ## Parts of what is held, with the way back -/

/-- The quarter of the argument. -/
theorem take_L (c : Dev nD) (K : Dev nD × Fin 66 → ℕ) (σ : ST) :
    St m c K σ ⊢ iprop(owns (c : Thread nD τ) lM fullShare (Lq m c) ∗ (owns (c : Thread nD τ) lM fullShare (Lq m c) -∗ St m c K σ)) := by
  unfold St
  iintro ⟨H1, H2, H3, H4, H5, H6, H7, H8, H9, H10, H11, H12, H13⟩
  isplitl [H12]; · iexact H12
  iintro H12
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12] <;> iassumption

/-- The pieces held. -/
theorem take_A (c : Dev nD) (K : Dev nD × Fin 66 → ℕ) (σ : ST) :
    St m c K σ ⊢ iprop((bigSep σ.A fun p => pc m c (hs p.2.2) p.1 p.2.1) ∗ ((bigSep σ.A fun p => pc m c (hs p.2.2) p.1 p.2.1) -∗ St m c K σ)) := by
  unfold St
  iintro ⟨H1, H2, H3, H4, H5, H6, H7, H8, H9, Hr⟩
  isplitl [H9]; · iexact H9
  iintro H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- An unwritten piece of the sum, to be given back unwritten or written. -/
theorem take_B (c : Dev nD) (K : Dev nD × Fin 66 → ℕ) (σ : ST) {s : Fin 8} (hs' : s ∈ σ.B) :
    St m c K σ ⊢ iprop(blank c 2 s ∗ ((blank c 2 s -∗ St m c K σ)
      ∧ (⌜(2, s, false) ∉ σ.A ∧ (2, s, true) ∉ σ.A⌝ -∗ pc m c fullShare 2 s -∗ St m c K (ap σ (.stR s))))) := by
  unfold St
  dsimp only [ap]
  iintro ⟨H1, H2, H3, H4, H5, H6, H7, H8, H9, H10, Hr⟩
  ihave H10' := (Entails.of_eq (sep_out hs' fun s => (blank c 2 s : sProp 𝕄))) $$ H10
  icases H10' with ⟨Hb, HB⟩
  isplitl [Hb]; · iexact Hb
  isplit
  · iintro Hb
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HB Hb]
    · iapply (Entails.of_eq (sep_out hs' fun s => (blank c 2 s : sProp 𝕄)).symm)
      isplitl [Hb] <;> iassumption
    iexact Hr
  · iintro %hA Hp
    ihave Hp' := (pc_halves m c 2 s) $$ Hp
    icases Hp' with ⟨Hp0, Hp1⟩
    have hA0' : ((2 : Fin 6), s, false) ∉ insert ((2 : Fin 6), s, true) σ.A := by
      rw [Finset.mem_insert, not_or]; exact ⟨fun h => by simp at h, hA.1⟩
    rw [sep_in hA0', sep_in hA.2]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9 Hp0 Hp1]
    · isplitl [Hp0]; · iexact Hp0
      isplitl [Hp1] <;> iassumption
    isplitl [HB]; · iexact HB
    iexact Hr

/-- The result's buffer, to be given back changed by `f`. -/
theorem take_O (c : Dev nD) (K : Dev nD × Fin 66 → ℕ) (σ : ST) (O' : Finset (Fin 4 × Fin 8))
    (f : (S4096x1024.Idx → Elt F .bf16) → S4096x1024.Idx → Elt F .bf16) (hf : ∀ Z, good m c σ.O Z → good m c O' (f Z)) :
    St m c K σ ⊢ iprop(∃ Z, owns (c : Thread nD τ) oM fullShare Z
      ∗ (owns (c : Thread nD τ) oM fullShare (f Z) -∗ St m c K { σ with O := O' })) := by
  unfold St outSt
  iintro ⟨H1, H2, H3, H4, H5, H6, H7, H8, H9, H10, ⟨%Z, %hZ, H11⟩, H12⟩
  iexists Z
  isplitl [H11]; · iexact H11
  iintro H11
  dsimp only
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists (f Z)
    isplitr; · ipureintro; exact hf Z hZ
    iexact H11
  iexact H12

/-! ## The events -/

section Steps

variable {m} {c : Dev nD} {K : Dev nD × Fin 66 → ℕ} {α : Type} {Q : α → sProp (MT nD τ sig Unit (Elt F) ℕ UU ℕ)} {n : ℕ}

/-- The transfer rule at a slot: it takes a half share of the source piece and the target's piece. -/
theorem send_core (i : Fin 32) (κ₁ κ₂ : ℕ) (O₀ O : CellTallies nD τ sig Unit) (hO : O₀ = O + tallyAt (recvCell (tgt c i) i) () N) (W : Waits sig Unit)
    {hsc : (Memref.view (κ := (Dev.tc (tgt c i) : Thread nD τ).2.kind) (pM (dstB i) (sub i))).ref.isScScratch = false}
    {hsrc : (pM (srcB i) (sub i)).view.WordExact} {hdst : (Memref.view (κ := (Dev.tc (tgt c i) : Thread nD τ).2.kind) (pM (dstB i) (sub i))).WordExact}
    {hsem : DmaTarget.Typed .vmem (.dma (recvS i)) (.remote (Dev.tc (tgt c i) : Thread nD τ) (pM (dstB i) (sub i)) (.dma (sendS i)) hsc)}
    {k : PUnit → Prog (TpuEff nD τ sig (Elt F) Λ₀ .tc) α} :
    iprop(cellInv ER (Rd (F := F) m) κ₁ (sendCell c i) ∗ cellInv ER (Rd (F := F) m) κ₂ (recvCell (tgt c i) i)
        ∗ pc m c (hs (half i)) (srcB i) (sub i) ∗ blank (tgt c i) (dstB i) (sub i)
        ∗ owes (c : Thread nD τ) O₀ W
        ∗ dutyTok ER (sendCell c i) 0 0 ∗ reached ER (sendCell c i) 0
        ∗ dutyTok ER (recvCell (tgt c i) i) 0 0 ∗ reached ER (recvCell (tgt c i) i) 0)
      ⊢ iprop(((cred (tallyAt (sendCell c i) () N) ∗ owes (c : Thread nD τ) O W) -∗ WP c (k ⟨⟩) Q)
          -∗ WP c (.op (.enqueueDma (pM (srcB i) (sub i)) (.remote (Dev.tc (tgt c i) : Thread nD τ) (pM (dstB i) (sub i)) (.dma (sendS i)) hsc)
              (.dma (recvS i)) hsrc hdst hsem) k) Q) := by
  unfold pc blank
  iintro ⟨H1, H2, Hp, ⟨%X, Hb⟩, H⟩
  ihave Hp' := (owns_open c (pM (srcB i) (sub i)) _ _) $$ Hp
  icases Hp' with ⟨%fs, %hfs, Hp⟩
  ihave Hb' := (owns_open (tgt c i) (pM (dstB i) (sub i)) _ _) $$ Hb
  icases Hb' with ⟨%fd, %hfd, Hb⟩
  iapply (Rounds.wp_send_pointsTo 𝒱₀ ER (Rd (F := F) m) (c : Thread nD τ) none (κ₁ := κ₁) (κ₂ := κ₂)
    (r₁ := 0) (r₂ := 0) (d₁ := 0) (d₂ := 0) (fs := fs) (fd := fd)
    (by rw [duties_send]; exact Finset.mem_singleton_self _) (by rw [duties_recv]; exact Finset.mem_singleton_self _)
    () () N (amount_eq (dstB i) (sub i) (recvS i)) (amount_send m c i 0) (amount_recv m (tgt c i) i 0) O hO (W := W)
    (by rw [payload_send]; unfold pc; rw [← hfs]; exact owns_intro (c : Thread nD τ) (pM (srcB i) (sub i)) _ fs)
    (by
      rw [payload_recv]; unfold pc
      rw [val_tgt, ← hfs]
      have e : (pM (dstB i) (sub i)).view.read (Elt F) ((pM (dstB i) (sub i)).view.write (Elt F) fd ((pM (srcB i) (sub i)).view.read (Elt F) fs) Finset.univ)
        = (pM (srcB i) (sub i)).view.read (Elt F) fs := View.read_write_univ fd _
      exact (owns_intro (tgt c i : Thread nD τ) (pM (dstB i) (sub i)) fullShare _).trans
        (Entails.of_eq (congrArg (fun Y => (owns (tgt c i : Thread nD τ) (pM (dstB i) (sub i)) fullShare Y : sProp 𝕄)) e))))
  isplitl [H1]; · iexact H1
  isplitl [H2]; · iexact H2
  isplitl [Hp]; · iexact Hp
  isplitl [Hb]; · iexact Hb
  iexact H

set_option maxHeartbeats 1600000 in
/-- Sending slot `i`. -/
theorem step_send (i : Fin 32) (he : evs[n]? = some (.send i)) {t : Dev nD} (hn : t = tgt c i)
    {src dst : Memref sig .tc .vmem S128x1024 .bf16} (h₁ : src = pM (srcB i) (sub i)) (h₂ : dst = pM (dstB i) (sub i))
    {sS sR : DmaSem sig} (h₃ : sS = sendS i) (h₄ : sR = recvS i)
    {hsc : (Memref.view (κ := (Dev.tc t : Thread nD τ).2.kind) dst).ref.isScScratch = false}
    {hsrc : src.view.WordExact} {hdst : (Memref.view (κ := (Dev.tc t : Thread nD τ).2.kind) dst).WordExact}
    {hsem : DmaTarget.Typed .vmem (.dma sR) (.remote (Dev.tc t : Thread nD τ) dst (.dma sS) hsc)}
    {k : PUnit → Prog (TpuEff nD τ sig (Elt F) Λ₀ .tc) α} (h : St m c K (S (n + 1)) ⊢ WP c (k ⟨⟩) Q) :
    St m c K (S n) ⊢ WP c (.op (.enqueueDma src (.remote (Dev.tc t : Thread nD τ) dst (.dma sS) hsc) (.dma sR) hsrc hdst hsem) k) Q := by
  subst hn h₁ h₂ h₃ h₄
  have hok := S_ok he
  rw [S_succ he] at h
  generalize S n = σ at hok h ⊢
  simp only [ok, Bool.and_eq_true, decide_eq_true_eq] at hok
  obtain ⟨⟨hT, hA⟩, hC⟩ := hok
  have hk : St m c K (ap σ (.send i)) ⊢ WP c (k ⟨⟩) Q := h
  unfold St at hk ⊢
  dsimp only [ap] at hk
  rw [sep_in hC] at hk
  rw [sep_out hT, sep_out hA]
  iintro ⟨#Hrec, ⟨%W, HO⟩, ⟨⟨HtS, HtR, Hbl⟩, HT⟩, HR, HRz, HV, HC, HVz, ⟨Hp, HA⟩, Hr⟩
  iapply (send_core i (K (c, kS i)) (K (tgt c i, kR i)) (OB c σ.T) (OB c (σ.T.erase i)) (OB_erase hT) W) $$ [HtS HtR Hbl Hp HO]
  · isplitr; · iapply (recs_inv m K (c, kS i) (cellAt_send c i)); iexact Hrec
    isplitr; · iapply (recs_inv m K (tgt c i, kR i) (cellAt_recv (tgt c i) i)); iexact Hrec
    isplitl [Hp]; · iexact Hp
    isplitl [Hbl]; · iexact Hbl
    isplitl [HO]; · iexact HO
    isplitl [HtS]; · iexact HtS
    isplitr; · iapply (recs_reached m K (c, kS i) (cellAt_send c i)); iexact Hrec
    isplitl [HtR]; · iexact HtR
    iapply (recs_reached m K (tgt c i, kR i) (cellAt_recv (tgt c i) i)); iexact Hrec
  iintro ⟨Hcr, HO⟩
  iapply hk
  isplitr; · iexact Hrec
  isplitl [HO]; · iexists W; iexact HO
  isplitl [HT]; · iexact HT
  isplitl [HR]; · iexact HR
  isplitl [HRz]; · iexact HRz
  isplitl [HV]; · iexact HV
  isplitl [HC Hcr]; · isplitl [Hcr] <;> iassumption
  isplitl [HVz]; · iexact HVz
  isplitl [HA]; · iexact HA
  iexact Hr

/-- The wait for a cell's one round, which closes it: the payload, and the semaphore at zero. -/
theorem wait_core (q : DmaSem sig) (κ : ℕ) (hexp : (Rd (F := F) m).expect ((c : Thread nD τ), .dma q) 0 = N) {P : sProp (MT nD τ sig Unit (Elt F) ℕ UU ℕ)}
    (hpay : bigSep ((Rd (F := F) m).duties ((c : Thread nD τ), .dma q) 0 \ ∅) (fun d => (Rd (F := F) m).payload ((c : Thread nD τ), .dma q) 0 d) = P)
    (T : Finset (Fin 32)) (hlt : ∀ i ∈ T, lvS (.dma q) < rk i) (W : Waits sig Unit)
    {s₁ : Shape} {e₁ : EltTy} {src : Memref sig .tc .vmem s₁ e₁} (b : Fin 6) (s : Fin 8)
    {hsrc : src.view.WordExact} {hdst : (pM b s).view.WordExact} {k : PUnit → Prog (TpuEff nD τ sig (Elt F) Λ₀ .tc) α} :
    iprop(cellInv ER (Rd (F := F) m) κ ((c : Thread nD τ), .dma q) ∗ cred (tallyAt ((c : Thread nD τ), .dma q) () N)
        ∗ owes (c : Thread nD τ) (OB c T) W ∗ levAts L lv ∗ atPos ER ((c : Thread nD τ), .dma q) 0 ∅ 0)
      ⊢ iprop((((∃ W, owes (c : Thread nD τ) (OB c T) W) ∗ semVal ((c : Thread nD τ), .dma q) 0 ∗ P) -∗ WP c (k ⟨⟩) Q)
          -∗ WP c (.op (.waitDma2 q src (pM b s) hsrc hdst) k) Q) := by
  iintro ⟨#HI, Hc, HO, #Hlev, Hat⟩ Hk
  iapply (Rounds.wp_wait_rest_token 𝒱₀ ER (Rd (F := F) m) (c : Thread nD τ) none (κ := κ)
    (wpE_waitDma2_eq 𝒱₀ (c : Thread nD τ) none Set.univ) (Set.mem_univ _) () (O := OB c T) (W := W) (R := 0) (m := 0) (T := ∅)
    ((Nat.zero_add _).trans ((credit_eq b s).trans hexp.symm))) $$ [Hc HO Hat]
  · isplitr; · iexact HI
    isplitl [Hc]; · iapply (Entails.of_eq (congrArg (fun x => (cred (tallyAt ((c : Thread nD τ), SemLoc.dma q) () x) : sProp 𝕄)) (credit_eq b s).symm)); iexact Hc
    isplitl [HO]; · iexact HO
    isplitr; · iapply (mayWait c (.dma q) T hlt); iexact Hlev
    iexact Hat
  iintro ⟨HO, Hat, -, Hpay⟩
  imod (Rounds.cell_close ER (Rd (F := F) m) (Set.mem_univ κ) (fun h => h) (R := 0 + 1) (duties_later m ((c : Thread nD τ), .dma q))) $$ [Hat] with Hz
  · isplitr; · iexact HI
    iexact Hat
  iapply Hk
  isplitl [HO]; · iexists _; iexact HO
  isplitl [Hz]; · iexact Hz
  iapply (Entails.of_eq hpay); iexact Hpay

/-- A receive semaphore is above the bottom. -/
theorem rk_pos (i : Fin 32) : 0 < rk i := by revert i; decide

/-- Waiting for slot `i`'s piece to land. -/
theorem step_recv (i : Fin 32) (he : evs[n]? = some (.recv i))
    {s₁ : Shape} {e₁ : EltTy} {src : Memref sig .tc .vmem s₁ e₁} {dst : Memref sig .tc .vmem S128x1024 .bf16} (h₂ : dst = pM (dstB i) (sub i))
    {sR : DmaSem sig} (h₄ : sR = recvS i) {hsrc : src.view.WordExact} {hdst : dst.view.WordExact}
    {k : PUnit → Prog (TpuEff nD τ sig (Elt F) Λ₀ .tc) α} (h : St m c K (S (n + 1)) ⊢ WP c (k ⟨⟩) Q) :
    St m c K (S n) ⊢ WP c (.op (.waitDma2 sR src dst hsrc hdst) k) Q := by
  subst h₂ h₄
  have hok := S_ok he
  rw [S_succ he] at h
  generalize S n = σ at hok h ⊢
  simp only [ok, Bool.and_eq_true, decide_eq_true_eq] at hok
  obtain ⟨⟨⟨⟨hR, hRz⟩, hA0⟩, hA1⟩, hlt⟩ := hok
  have hA0' : (dstB i, sub i, false) ∉ insert (dstB i, sub i, true) σ.A := by
    rw [Finset.mem_insert, not_or]; exact ⟨fun h => by simp at h, hA0⟩
  have hk : St m c K (ap σ (.recv i)) ⊢ WP c (k ⟨⟩) Q := h
  unfold St at hk ⊢
  dsimp only [ap] at hk
  rw [sep_in hRz, sep_in hA0', sep_in hA1] at hk
  rw [sep_out hR]
  iintro ⟨#Hrec, ⟨%W, HO⟩, HT, ⟨⟨Hat, Hcr⟩, HR⟩, HRz, HV, HC, HVz, HA, Hr⟩
  iapply (wait_core (recvS i) (K (c, kR i)) (expect_recv m c i) (rest_recv m c i) σ.T (fun j hj => by rw [lvS_recv]; exact hlt j hj) W (dstB i) (sub i)) $$ [HO Hat Hcr]
  · isplitr; · iapply (recs_inv m K (c, kR i) (cellAt_recv c i)); iexact Hrec
    isplitl [Hcr]; · iexact Hcr
    isplitl [HO]; · iexact HO
    isplitr; · iapply (recs_lev m K); iexact Hrec
    iexact Hat
  iintro ⟨HO, Hz, Hp⟩
  ihave Hp' := (pc_halves m c (dstB i) (sub i)) $$ Hp
  icases Hp' with ⟨Hp0, Hp1⟩
  iapply hk
  isplitr; · iexact Hrec
  isplitl [HO]; · iexact HO
  isplitl [HT]; · iexact HT
  isplitl [HR]; · iexact HR
  isplitl [HRz Hz]; · isplitl [Hz] <;> iassumption
  isplitl [HV]; · iexact HV
  isplitl [HC]; · iexact HC
  isplitl [HVz]; · iexact HVz
  isplitl [HA Hp0 Hp1]
  · isplitl [Hp0]; · iexact Hp0
    isplitl [Hp1] <;> iassumption
  iexact Hr

/-- Waiting for slot `i`'s lent half share to come back. -/
theorem step_back (i : Fin 32) (he : evs[n]? = some (.back i))
    {s₁ : Shape} {e₁ : EltTy} {src : Memref sig .tc .vmem s₁ e₁} {dst : Memref sig .tc .vmem S128x1024 .bf16} (h₂ : dst = pM (srcB i) (sub i))
    {sS : DmaSem sig} (h₄ : sS = sendS i) {hsrc : src.view.WordExact} {hdst : dst.view.WordExact}
    {k : PUnit → Prog (TpuEff nD τ sig (Elt F) Λ₀ .tc) α} (h : St m c K (S (n + 1)) ⊢ WP c (k ⟨⟩) Q) :
    St m c K (S n) ⊢ WP c (.op (.waitDma2 sS src dst hsrc hdst) k) Q := by
  subst h₂ h₄
  have hok := S_ok he
  rw [S_succ he] at h
  generalize S n = σ at hok h ⊢
  simp only [ok, Bool.and_eq_true, decide_eq_true_eq] at hok
  obtain ⟨⟨⟨hV, hC⟩, hVz⟩, hA⟩ := hok
  have hk : St m c K (ap σ (.back i)) ⊢ WP c (k ⟨⟩) Q := h
  unfold St at hk ⊢
  dsimp only [ap] at hk
  rw [sep_in hVz, sep_in hA] at hk
  rw [sep_out hV, sep_out hC]
  iintro ⟨#Hrec, ⟨%W, HO⟩, HT, HR, HRz, ⟨Hat, HV⟩, ⟨Hcr, HC⟩, HVz, HA, Hr⟩
  iapply (wait_core (sendS i) (K (c, kS i)) (expect_send m c i) (rest_send m c i) σ.T (fun j hj => by rw [lvS_send]; exact rk_pos j) W (srcB i) (sub i)) $$ [HO Hat Hcr]
  · isplitr; · iapply (recs_inv m K (c, kS i) (cellAt_send c i)); iexact Hrec
    isplitl [Hcr]; · iexact Hcr
    isplitl [HO]; · iexact HO
    isplitr; · iapply (recs_lev m K); iexact Hrec
    iexact Hat
  iintro ⟨HO, Hz, Hp⟩
  iapply hk
  isplitr; · iexact Hrec
  isplitl [HO]; · iexact HO
  isplitl [HT]; · iexact HT
  isplitl [HR]; · iexact HR
  isplitl [HRz]; · iexact HRz
  isplitl [HV]; · iexact HV
  isplitl [HC]; · iexact HC
  isplitl [HVz Hz]; · isplitl [Hz] <;> iassumption
  isplitl [HA Hp]; · isplitl [Hp] <;> iassumption
  iexact Hr

/-- Loading piece `s` of the quarter. -/
theorem step_ldL (s : Fin 8) (he : evs[n]? = some (.ldL s)) {r : Rect S1024x1024} (hr : r = rc s)
    {hl : (lM : Memref sig .tc .vmem S1024x1024 .f32).view.LoadsAt r.toLoadRect}
    {k : (r.shape.Idx → Elt F .f32) → Prog (TpuEff nD τ sig (Elt F) Λ₀ .tc) α}
    (h : St m c K (S (n + 1)) ⊢ WP c (k (fun j => Lq m c (r.emb j))) Q) :
    St m c K (S n) ⊢ WP c (.op (.load lM r.toLoadRect hl) k) Q := by
  rw [S_succ he] at h
  have hk : St m c K (S n) ⊢ WP c (k (fun j => Lq m c (r.emb j))) Q := h
  iintro H
  ihave H' := (take_L m c K (S n)) $$ H
  icases H' with ⟨Hl, Hb⟩
  iapply (load_sub c lM r fullShare (Lq m c)) $$ Hl
  iintro Hl
  iapply hk
  iapply Hb
  iexact Hl

/-- Loading piece `s` of what came along z. -/
theorem step_ldP (s : Fin 8) (he : evs[n]? = some (.ldP s))
    {hl : (bM 1).view.LoadsAt (rc s).toLoadRect}
    {k : ((rc s).shape.Idx → Elt F .bf16) → Prog (TpuEff nD τ sig (Elt F) Λ₀ .tc) α}
    (h : St m c K (S (n + 1)) ⊢ WP c (k (fun j => val m c 1 ((rc s).emb j))) Q) :
    St m c K (S n) ⊢ WP c (.op (.load (bM 1) (rc s).toLoadRect hl) k) Q := by
  have hok := S_ok he
  simp only [ok, decide_eq_true_eq] at hok
  rw [S_succ he] at h
  have hk : St m c K (S n) ⊢ WP c (k (fun j => val m c 1 ((rc s).emb j))) Q := h
  have hp : (pc m c (hs false) 1 s : sProp 𝕄) = owns (c : Thread nD τ) ((bM 1).slice (rc s) (fun _ => rfl)) (hs false) (fun j => val m c 1 ((rc s).emb j)) := rfl
  have hsp : (bigSep (S n).A fun p => (pc m c (hs p.2.2) p.1 p.2.1 : sProp 𝕄))
      = iprop(pc m c (hs false) 1 s ∗ bigSep ((S n).A.erase (1, s, false)) fun p => pc m c (hs p.2.2) p.1 p.2.1) := sep_out hok _
  iintro H
  ihave H' := (take_A m c K (S n)) $$ H
  rw [hsp, hp]
  icases H' with ⟨⟨Hp, HA⟩, Hb⟩
  iapply (load_slice c (bM 1) (rc s) (fun _ => rfl) (hs false) (fun j => val m c 1 ((rc s).emb j))) $$ [Hp]
  · iexact Hp
  iintro Hp
  iapply hk
  iapply Hb
  isplitl [Hp]; · iexact Hp
  iexact HA

/-- Loading piece `s` of the sum's old contents. -/
theorem step_ldR (s : Fin 8) (he : evs[n]? = some (.ldR s))
    {hl : (bM 2).view.LoadsAt (rc s).toLoadRect}
    {k : ((rc s).shape.Idx → Elt F .bf16) → Prog (TpuEff nD τ sig (Elt F) Λ₀ .tc) α}
    (h : ∀ X, St m c K (S (n + 1)) ⊢ WP c (k X) Q) :
    St m c K (S n) ⊢ WP c (.op (.load (bM 2) (rc s).toLoadRect hl) k) Q := by
  have hok := S_ok he
  simp only [ok, decide_eq_true_eq] at hok
  rw [S_succ he] at h
  have hk : ∀ X, St m c K (S n) ⊢ WP c (k X) Q := h
  iintro H
  ihave H' := (take_B m c K (S n) hok) $$ H
  unfold blank
  icases H' with ⟨⟨%X, Hp⟩, Hb⟩
  iapply (load_slice c (bM 2) (rc s) (fun _ => rfl) fullShare X) $$ [Hp]
  · iexact Hp
  iintro Hp
  iapply (hk X)
  icases Hb with ⟨Hb, -⟩
  iapply Hb
  iexists X
  iexact Hp

/-- Storing piece `s` of the sum. -/
theorem step_stR (s : Fin 8) (he : evs[n]? = some (.stR s)) {w : (rc s).shape.Idx → Elt F .bf16}
    (hw : w = fun j => val m c 2 ((rc s).emb j))
    {hx : ((bM 2).access (rc s)).Stores Finset.univ} {hm : Finset.univ = Finset.univ ∨ ∀ a, (rc s).stride a = 1}
    {k : PUnit → Prog (TpuEff nD τ sig (Elt F) Λ₀ .tc) α}
    (h : St m c K (S (n + 1)) ⊢ WP c (k ⟨⟩) Q) :
    St m c K (S n) ⊢ WP c (.op (.store (bM 2) (rc s) w Finset.univ hx hm) k) Q := by
  subst hw
  have hok := S_ok he
  simp only [ok, Bool.and_eq_true, decide_eq_true_eq] at hok
  rw [S_succ he] at h
  iintro H
  ihave H' := (take_B m c K (S n) hok.1.1) $$ H
  unfold blank
  icases H' with ⟨⟨%X, Hp⟩, Hb⟩
  iapply (store_slice c (bM 2) (rc s) (fun _ => rfl) X _) $$ [Hp]
  · iexact Hp
  iintro Hp
  iapply h
  icases Hb with ⟨-, Hb⟩
  iapply Hb
  · ipureintro; exact ⟨hok.1.2, hok.2⟩
  unfold pc
  iexact Hp

/-- Loading a part of the result's old contents. -/
theorem step_ldO (he : evs[n]? = some .ldO) {r : Rect S4096x1024}
    {hl : (oM : Memref sig .tc .vmem S4096x1024 .bf16).view.LoadsAt r.toLoadRect}
    {k : (r.shape.Idx → Elt F .bf16) → Prog (TpuEff nD τ sig (Elt F) Λ₀ .tc) α}
    (h : ∀ X, St m c K (S (n + 1)) ⊢ WP c (k X) Q) :
    St m c K (S n) ⊢ WP c (.op (.load oM r.toLoadRect hl) k) Q := by
  rw [S_succ he] at h
  have hk : ∀ X, St m c K { S n with O := (S n).O } ⊢ WP c (k X) Q := h
  iintro H
  ihave H' := (take_O m c K (S n) (S n).O id fun _ h => h) $$ H
  icases H' with ⟨%Z, Ho, Hb⟩
  iapply (load_sub c oM r fullShare Z) $$ Ho
  iintro Ho
  iapply (hk _)
  iapply Hb
  iexact Ho

/-- Loading a buffer that is wholly received. -/
theorem step_ldW (q : Fin 4) (he : evs[n]? = some (.ldW q)) {M : Memref sig .tc .vmem S1024x1024 .bf16} (hM : M = bM (qb q))
    {hl : M.view.LoadsAt rW.toLoadRect}
    {k : (rW.shape.Idx → Elt F .bf16) → Prog (TpuEff nD τ sig (Elt F) Λ₀ .tc) α}
    (h : St m c K (S (n + 1)) ⊢ WP c (k (val m c (qb q))) Q) :
    St m c K (S n) ⊢ WP c (.op (.load M rW.toLoadRect hl) k) Q := by
  subst hM
  have hok := S_ok he
  simp only [ok, decide_eq_true_eq] at hok
  rw [S_succ he] at h
  have hk : St m c K (S n) ⊢ WP c (k (val m c (qb q))) Q := h
  have hsub : (Finset.univ.map ⟨fun s : Fin 8 => (qb q, s, false), fun s t h => by simpa using h⟩ : Finset (Fin 6 × Fin 8 × Bool)) ⊆ (S n).A := by
    intro p hp
    obtain ⟨s, -, rfl⟩ := Finset.mem_map.mp hp
    exact hok s
  have hW : (fun j : rW.shape.Idx => val m c (qb q) (rW.emb j)) = val m c (qb q) := funext fun j => congrArg _ (funext fun a => Fin.ext (by
    show (![0, 0] : Fin 2 → ℕ) a + 1 * (j a).val = (j a).val
    match a with
    | 0 => show 0 + 1 * (j 0).val = (j 0).val; omega
    | 1 => show 0 + 1 * (j 1).val = (j 1).val; omega))
  have hsp : (bigSep (S n).A fun p => (pc m c (hs p.2.2) p.1 p.2.1 : sProp 𝕄))
      = iprop((bigSep Finset.univ fun s : Fin 8 => pc m c (hs false) (qb q) s) ∗ bigSep ((S n).A \ _) fun p => pc m c (hs p.2.2) p.1 p.2.1) :=
    (bigSep_sdiff_split hsub).trans (by rw [bigSep_map]; rfl)
  iintro H
  ihave H' := (take_A m c K (S n)) $$ H
  rw [hsp]
  icases H' with ⟨⟨Hp, HA⟩, Hb⟩
  ihave Hw := (unpieces c (hs false) (qb q) (val m c (qb q))) $$ [Hp]
  · iexact Hp
  iapply (load_sub c (bM (qb q)) rW (hs false) (val m c (qb q))) $$ Hw
  iintro Hw
  rw [hW]
  iapply hk
  iapply Hb
  isplitl [Hw]
  · iapply (pieces c (hs false) (qb q) (val m c (qb q))); iexact Hw
  iexact HA

/-- Where a rectangle of a quarter's pieces lies in the result: its places are `big`'s. -/
theorem emb_big {off : Fin 2 → ℕ} {size : Fin 2 → ℕ} {inb} (q : ℕ) (hq : q < 4) (d : ℕ) (ho : off = ![1024 * q + d, 0])
    (j : (Rect.unit (s := S4096x1024) off size inb).shape.Idx) (i : S1024x1024.Idx) (h0 : (i 0).val = d + (j 0).val) (h1 : (i 1).val = (j 1).val) :
    (Rect.unit (s := S4096x1024) off size inb).emb j = big q hq i := by
  subst ho
  funext a
  refine Fin.ext ?_
  match a with
  | 0 => show 1024 * q + d + 1 * (j 0).val = 1024 * q + (i 0).val; omega
  | 1 => show 0 + 1 * (j 1).val = 0 + (i 1).val; omega

/-- A device's four quarters are different. -/
theorem qn_inj (c : Dev nD) (k l : Fin 4) (h : qn c k = qn c l) : k = l := by revert c k l; decide

/-- Storing the piece `s` of the own quarter makes it good and keeps the others. -/
theorem good_stO (c : Dev nD) (O : Finset (Fin 4 × Fin 8)) (s : Fin 8) {off : Fin 2 → ℕ} {inb : ∀ a, off a + S128x1024.size a ≤ S4096x1024.size a}
    (ho : off = ![1024 * qn c 0 + 128 * s.val, 0]) (Z : S4096x1024.Idx → Elt F .bf16) (hZ : good m c O Z) :
    good m c (insert (0, s) O) ((Rect.unit (s := S4096x1024) off S128x1024.size inb).overlay Z fun j : S128x1024.Idx => val m c 2 ((rc s).emb j)) := by
  rintro ⟨l, t⟩ hp j
  by_cases heq : ((l, t) : Fin 4 × Fin 8) = (0, s)
  · cases heq
    have e := emb_big (inb := inb) (qn c 0) (qn_lt c 0) (128 * s.val) ho j ((rc s).emb j)
      (by show 128 * s.val + 1 * (j 0).val = _; omega) (by show 0 + 1 * (j 1).val = _; omega)
    dsimp only
    rw [← e]
    exact Rect.overlay_emb _ _ _ _
  · rw [Rect.overlay_of_not_mem]
    · exact hZ (l, t) ((Finset.mem_insert.mp hp).resolve_left heq) j
    · intro hmem
      have h0 := Rect.mem_set_unit.mp hmem 0
      subst ho
      have h0 : 1024 * qn c 0 + 128 * s.val ≤ 1024 * qn c l + (128 * t.val + 1 * (j 0).val)
        ∧ 1024 * qn c l + (128 * t.val + 1 * (j 0).val) < 1024 * qn c 0 + 128 * s.val + 128 := h0
      have hj : (j 0).val < 128 := (j 0).isLt
      have hs' := s.isLt
      have ht := t.isLt
      have hql : qn c l = qn c 0 := by omega
      have hst : t = s := Fin.ext (by omega)
      exact heq (by rw [qn_inj c l 0 hql, hst])

/-- Storing the quarter `q` makes its pieces good and keeps the others. -/
theorem good_stQ (c : Dev nD) (O : Finset (Fin 4 × Fin 8)) (q : Fin 4) {off : Fin 2 → ℕ} {inb : ∀ a, off a + S1024x1024.size a ≤ S4096x1024.size a}
    (ho : off = ![1024 * qn c q, 0]) (Z : S4096x1024.Idx → Elt F .bf16) (hZ : good m c O Z) :
    good m c (O ∪ Finset.univ.image fun s => (q, s)) ((Rect.unit (s := S4096x1024) off S1024x1024.size inb).overlay Z (val m c (qb q))) := by
  rintro ⟨l, t⟩ hp j
  by_cases heq : l = q
  · subst heq
    have e := emb_big (inb := inb) (qn c l) (qn_lt c l) 0 ho ((rc t).emb j) ((rc t).emb j) (Nat.zero_add _).symm rfl
    dsimp only
    rw [← e]
    exact Rect.overlay_emb _ _ _ _
  · rw [Rect.overlay_of_not_mem]
    · refine hZ (l, t) ((Finset.mem_union.mp hp).resolve_right fun hi => ?_) j
      obtain ⟨s, -, hs'⟩ := Finset.mem_image.mp hi
      exact heq (congrArg Prod.fst hs').symm
    · intro hmem
      have h0 := Rect.mem_set_unit.mp hmem 0
      subst ho
      have h0 : 1024 * qn c q ≤ 1024 * qn c l + (128 * t.val + 1 * (j 0).val)
        ∧ 1024 * qn c l + (128 * t.val + 1 * (j 0).val) < 1024 * qn c q + 1024 := h0
      have hj : (j 0).val < 128 := (j 0).isLt
      have ht := t.isLt
      exact heq (qn_inj c l q (by omega))

/-- Storing piece `s` of the own quarter of the result. -/
theorem step_stO (s : Fin 8) (he : evs[n]? = some (.stO s)) {off : Fin 2 → ℕ} {inb : ∀ a, off a + S128x1024.size a ≤ S4096x1024.size a}
    (ho : off = ![1024 * qn c 0 + 128 * s.val, 0])
    {w : S128x1024.Idx → Elt F .bf16} (hw : w = fun j => val m c 2 ((rc s).emb j))
    {hx : ((oM : Memref sig .tc .vmem S4096x1024 .bf16).access (Rect.unit (s := S4096x1024) off S128x1024.size inb)).Stores Finset.univ}
    {hm : Finset.univ = Finset.univ ∨ ∀ a, (Rect.unit (s := S4096x1024) off S128x1024.size inb).stride a = 1}
    {k : PUnit → Prog (TpuEff nD τ sig (Elt F) Λ₀ .tc) α}
    (h : St m c K (S (n + 1)) ⊢ WP c (k ⟨⟩) Q) :
    St m c K (S n) ⊢ WP c (.op (.store oM (Rect.unit (s := S4096x1024) off S128x1024.size inb) w Finset.univ hx hm) k) Q := by
  subst hw
  rw [S_succ he] at h
  have hk : St m c K { S n with O := insert (0, s) (S n).O } ⊢ WP c (k ⟨⟩) Q := h
  iintro H
  ihave H' := (take_O m c K (S n) (insert (0, s) (S n).O) _ (good_stO c (S n).O s (inb := inb) ho)) $$ H
  icases H' with ⟨%Z, Ho, Hb⟩
  iapply (store_sub c oM (Rect.unit (s := S4096x1024) off S128x1024.size inb) (fun _ => rfl) Z _) $$ Ho
  iintro Ho
  iapply hk
  iapply Hb
  iexact Ho

/-- Storing a received quarter of the result. -/
theorem step_stQ (q : Fin 4) (he : evs[n]? = some (.stQ q)) {off : Fin 2 → ℕ} {inb : ∀ a, off a + S1024x1024.size a ≤ S4096x1024.size a}
    (ho : off = ![1024 * qn c q, 0])
    {hx : ((oM : Memref sig .tc .vmem S4096x1024 .bf16).access (Rect.unit (s := S4096x1024) off S1024x1024.size inb)).Stores Finset.univ}
    {hm : Finset.univ = Finset.univ ∨ ∀ a, (Rect.unit (s := S4096x1024) off S1024x1024.size inb).stride a = 1}
    {k : PUnit → Prog (TpuEff nD τ sig (Elt F) Λ₀ .tc) α}
    (h : St m c K (S (n + 1)) ⊢ WP c (k ⟨⟩) Q) :
    St m c K (S n) ⊢ WP c (.op (.store oM (Rect.unit (s := S4096x1024) off S1024x1024.size inb) (val m c (qb q)) Finset.univ hx hm) k) Q := by
  rw [S_succ he] at h
  have hk : St m c K { S n with O := (S n).O ∪ Finset.univ.image fun s => (q, s) } ⊢ WP c (k ⟨⟩) Q := h
  iintro H
  ihave H' := (take_O m c K (S n) ((S n).O ∪ Finset.univ.image fun s => (q, s)) _ (good_stQ c (S n).O q (inb := inb) ho)) $$ H
  icases H' with ⟨%Z, Ho, Hb⟩
  iapply (store_sub c oM (Rect.unit (s := S4096x1024) off S1024x1024.size inb) (fun _ => rfl) Z _) $$ Ho
  iintro Ho
  iapply hk
  iapply Hb
  iexact Ho

end Steps

end Cert.Cube

end
-- ==== Proof.Parts.lean ====
/-
The program of a device part by part: each part takes what is held before its events to what is held after.
-/
module

public import proofs.«01_k».proof.Proof.Steps
public import Idealize.ShloMosaic.Lib.Pipeline.Value

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA Auth

variable {F : FTy → Type} [FloatOps F]

local notation "𝕄" => MT nD τ sig Unit (Elt F) ℕ UU ℕ

variable (m : (ℓ : Loc nD τ sig) → Buf (Elt F) ℓ)

/-! ## The stored values -/

/-- Piece `s` of the sum along z before its rounding, as the program computes it. -/
def sumP (c : Dev nD) (s : Fin 8) : FVec F S128x1024 .f32 :=
  k0_pay2 (F := F) (fun j => Lq m c ((rc s).emb j)) (fun j => val m c 1 ((rc s).emb j))

/-- What is stored to the sum is its piece. -/
theorem payR (c : Dev nD) (s : Fin 8) :
    k0_pay3 (F := F) (fun j => Lq m c ((rc s).emb j)) (fun j => val m c 1 ((rc s).emb j)) = fun j => val m c 2 ((rc s).emb j) :=
  (shapeCast_self _ shapeCasts_S128x1024_S128x1024).trans rfl

/-- What is stored to the result is the sum's piece. -/
theorem payO (c : Dev nD) (s : Fin 8) : k0_pay4 (F := F) (sumP m c s) = fun j => val m c 2 ((rc s).emb j) := rfl

/-- The rows the pieces of the own quarter are stored to, -/
theorem offO (c : Dev nD) (s : Fin 8) : k0_off2 c (BitVec.ofNat 32 (128 * s.val)) = ![1024 * qn c 0 + 128 * s.val, 0] := by
  rw [k0_off2_eq]
  have h : c.val < 8 := c.isLt
  exact congrArg (fun x => (![x + 128 * s.val, 0] : Fin 2 → ℕ)) (by show _ = 1024 * (c.val / 2); omega)
/-- and the rows the received quarters are stored to. -/
theorem off1 (c : Dev nD) : k0_off3 c = ![1024 * qn c 1, 0] := by revert c; decide +kernel
/-- The rows of the quarter from y. -/
theorem off2 (c : Dev nD) : k0_off4 c = ![1024 * qn c 2, 0] := by revert c; decide +kernel
/-- The rows of the forwarded quarter. -/
theorem off3 (c : Dev nD) : k0_off5 c = ![1024 * qn c 3, 0] := by revert c; decide +kernel

/-! ## The parts -/

/-- A part of the program at the program's buffers and semaphores. -/
abbrev on {β : Type 1} (p : (arg0 : Memref sig .tc .hbm S4096x1024 .f32) → arg0.IsWhole → (arg1 : Memref sig .tc .vmem S4096x1024 .bf16) → arg1.IsWhole
    → (arg2 : Memref sig .tc .vmem S1024x1024 .f32) → arg2.IsWhole → (arg3 : Memref sig .tc .vmem S1024x1024 .bf16) → arg3.IsWhole
    → (arg4 : Memref sig .tc .vmem S1024x1024 .bf16) → arg4.IsWhole → (arg5 : Memref sig .tc .vmem S1024x1024 .bf16) → arg5.IsWhole
    → (arg6 : Memref sig .tc .vmem S1024x1024 .bf16) → arg6.IsWhole → (arg7 : Memref sig .tc .vmem S1024x1024 .bf16) → arg7.IsWhole
    → (arg8 : Memref sig .tc .vmem S1024x1024 .bf16) → arg8.IsWhole → DmaSems sig S_ → DmaSems sig S32 → DmaSems sig S32 → β) : β :=
  p (Memref.whole main_arg0) (Memref.isWhole_whole _) (Memref.whole cc0_stg0_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9

variable {m} {c : Dev nD} {K : Dev nD × Fin 66 → ℕ} {α : Type} {Q : α → sProp (MT nD τ sig Unit (Elt F) ℕ UU ℕ)}

/-- The printed part 3 goes through events 0 to 2. -/
theorem part3 (v2 v5 v11 : BitVec 32) {rest : (Σ' (v90 : BitVec 32), BitVec 32) → Prog (TpuEff nD τ sig (Elt F) Λ₀ .tc) α}
    (h : ∀ r, St m c K (S 3) ⊢ WP c (rest r) Q) :
    St m c K (S 0) ⊢ WP c (on (k0_part3 (F := F)) c v2 v5 v11 >>= rest) Q := by
  unfold on; rw [k0_part3_eq_skeleton]; unfold k0_part3_skel
  simp only [Prog.lift, Prog.bind_op, Prog.bind_ret, Prog.pure_eq_ret]
  refine step_send (n := 0) 0 rfl (Fin.ext (k0_dev4_eq c)) rfl rfl rfl rfl ?_
  refine step_send (n := 1) 1 rfl (Fin.ext (k0_dev5_eq c)) rfl rfl rfl rfl ?_
  refine step_send (n := 2) 2 rfl (Fin.ext (k0_dev6_eq c)) rfl rfl rfl rfl ?_
  exact h _

/-- The printed part 4 goes through events 3 to 5. -/
theorem part4 (v2 v5 v11 v90 v91 : BitVec 32) {rest : (PUnit) → Prog (TpuEff nD τ sig (Elt F) Λ₀ .tc) α}
    (h : St m c K (S 6) ⊢ WP c (rest ⟨⟩) Q) :
    St m c K (S 3) ⊢ WP c (on (k0_part4 (F := F)) c v2 v5 v11 v90 v91 >>= rest) Q := by
  unfold on; rw [k0_part4_eq_skeleton]; unfold k0_part4_skel
  simp only [Prog.lift, Prog.bind_op, Prog.bind_ret, Prog.pure_eq_ret]
  refine step_send (n := 3) 3 rfl (Fin.ext (k0_dev7_eq c)) rfl rfl rfl rfl ?_
  refine step_send (n := 4) 4 rfl (Fin.ext (k0_dev8_eq c)) rfl rfl rfl rfl ?_
  refine step_send (n := 5) 5 rfl (Fin.ext (k0_dev9_eq c)) rfl rfl rfl rfl ?_
  exact h

/-- The printed part 5 goes through events 6 to 7. -/
theorem part5 (v2 v5 v11 : BitVec 32) {rest : (PUnit) → Prog (TpuEff nD τ sig (Elt F) Λ₀ .tc) α}
    (h : St m c K (S 8) ⊢ WP c (rest ⟨⟩) Q) :
    St m c K (S 6) ⊢ WP c (on (k0_part5 (F := F)) c v2 v5 v11 >>= rest) Q := by
  unfold on; rw [k0_part5_eq_skeleton]; unfold k0_part5_skel
  simp only [Prog.lift, Prog.bind_op, Prog.bind_ret, Prog.pure_eq_ret]
  refine step_send (n := 6) 6 rfl (Fin.ext (k0_dev10_eq c)) rfl rfl rfl rfl ?_
  refine step_send (n := 7) 7 rfl (Fin.ext (k0_dev11_eq c)) rfl rfl rfl rfl ?_
  exact h

/-- The printed part 6 goes through events 8 to 13. -/
theorem part6 (v2 v5 v8 v9 v10 : BitVec 32) {rest : (FVec F S128x1024 .f32) → Prog (TpuEff nD τ sig (Elt F) Λ₀ .tc) α}
    (h : St m c K (S 14) ⊢ WP c (rest (sumP m c 0)) Q) :
    St m c K (S 8) ⊢ WP c (on (k0_part6 (F := F)) c v2 v5 v8 v9 v10 >>= rest) Q := by
  unfold on; rw [k0_part6_eq_skeleton]; unfold k0_part6_skel
  simp only [Prog.lift, Prog.bind_op, Prog.bind_ret, Prog.pure_eq_ret]
  refine step_recv (n := 8) 0 rfl rfl rfl ?_
  refine step_ldL (n := 9) 0 rfl rfl ?_
  refine step_ldP (n := 10) 0 rfl ?_
  refine step_ldR (n := 11) 0 rfl fun _ => ?_
  refine step_stR (n := 12) 0 rfl (payR m c 0) ?_
  refine step_send (n := 13) 8 rfl (Fin.ext (k0_dev12_eq c)) rfl rfl rfl rfl ?_
  exact h

/-- The printed part 7 goes through events 14 to 21. -/
theorem part7 (v2 v5 v9 v11 v13 : BitVec 32) {rest : (Σ' (v207 : FVec F S128x1024 .f32), BitVec 32) → Prog (TpuEff nD τ sig (Elt F) Λ₀ .tc) α}
    (h : ∀ w, St m c K (S 22) ⊢ WP c (rest ⟨sumP m c 1, w⟩) Q) :
    St m c K (S 14) ⊢ WP c (on (k0_part7 (F := F)) c v2 v5 v9 v11 v13 (sumP m c 0) >>= rest) Q := by
  unfold on; rw [k0_part7_eq_skeleton]; unfold k0_part7_skel
  simp only [Prog.lift, Prog.bind_op, Prog.bind_ret, Prog.pure_eq_ret]
  refine step_send (n := 14) 16 rfl (Fin.ext (k0_dev13_eq c)) rfl rfl rfl rfl ?_
  refine step_ldO (n := 15) rfl fun _ => ?_
  refine step_stO (n := 16) 0 rfl (offO c 0) (payO m c 0) ?_
  refine step_recv (n := 17) 1 rfl rfl rfl ?_
  refine step_ldL (n := 18) 1 rfl rfl ?_
  refine step_ldP (n := 19) 1 rfl ?_
  refine step_ldR (n := 20) 1 rfl fun _ => ?_
  refine step_stR (n := 21) 1 rfl (payR m c 1) ?_
  exact h _

/-- The printed part 8 goes through events 22 to 25. -/
theorem part8 (v2 v5 v8 v10 v11 v13 v215 : BitVec 32) {rest : (PUnit) → Prog (TpuEff nD τ sig (Elt F) Λ₀ .tc) α}
    (h : St m c K (S 26) ⊢ WP c (rest ⟨⟩) Q) :
    St m c K (S 22) ⊢ WP c (on (k0_part8 (F := F)) c v2 v5 v8 v10 v11 v13 (sumP m c 1) v215 >>= rest) Q := by
  unfold on; rw [k0_part8_eq_skeleton]; unfold k0_part8_skel
  simp only [Prog.lift, Prog.bind_op, Prog.bind_ret, Prog.pure_eq_ret]
  refine step_send (n := 22) 9 rfl (Fin.ext (k0_dev14_eq c)) rfl rfl rfl rfl ?_
  refine step_send (n := 23) 17 rfl (Fin.ext (k0_dev15_eq c)) rfl rfl rfl rfl ?_
  refine step_ldO (n := 24) rfl fun _ => ?_
  refine step_stO (n := 25) 1 rfl (offO c 1) (payO m c 1) ?_
  exact h

/-- The printed part 9 goes through events 26 to 31. -/
theorem part9 (v2 v5 v8 v9 v10 : BitVec 32) {rest : (FVec F S128x1024 .f32) → Prog (TpuEff nD τ sig (Elt F) Λ₀ .tc) α}
    (h : St m c K (S 32) ⊢ WP c (rest (sumP m c 2)) Q) :
    St m c K (S 26) ⊢ WP c (on (k0_part9 (F := F)) c v2 v5 v8 v9 v10 >>= rest) Q := by
  unfold on; rw [k0_part9_eq_skeleton]; unfold k0_part9_skel
  simp only [Prog.lift, Prog.bind_op, Prog.bind_ret, Prog.pure_eq_ret]
  refine step_recv (n := 26) 2 rfl rfl rfl ?_
  refine step_ldL (n := 27) 2 rfl rfl ?_
  refine step_ldP (n := 28) 2 rfl ?_
  refine step_ldR (n := 29) 2 rfl fun _ => ?_
  refine step_stR (n := 30) 2 rfl (payR m c 2) ?_
  refine step_send (n := 31) 10 rfl (Fin.ext (k0_dev16_eq c)) rfl rfl rfl rfl ?_
  exact h

/-- The printed part 10 goes through events 32 to 39. -/
theorem part10 (v2 v5 v9 v11 v13 : BitVec 32) {rest : (Σ' (v301 : FVec F S128x1024 .f32) (v307 : BitVec 32), BitVec 32) → Prog (TpuEff nD τ sig (Elt F) Λ₀ .tc) α}
    (h : ∀ w w', St m c K (S 40) ⊢ WP c (rest ⟨sumP m c 3, w, w'⟩) Q) :
    St m c K (S 32) ⊢ WP c (on (k0_part10 (F := F)) c v2 v5 v9 v11 v13 (sumP m c 2) >>= rest) Q := by
  unfold on; rw [k0_part10_eq_skeleton]; unfold k0_part10_skel
  simp only [Prog.lift, Prog.bind_op, Prog.bind_ret, Prog.pure_eq_ret]
  refine step_send (n := 32) 18 rfl (Fin.ext (k0_dev17_eq c)) rfl rfl rfl rfl ?_
  refine step_ldO (n := 33) rfl fun _ => ?_
  refine step_stO (n := 34) 2 rfl (offO c 2) (payO m c 2) ?_
  refine step_recv (n := 35) 3 rfl rfl rfl ?_
  refine step_ldL (n := 36) 3 rfl rfl ?_
  refine step_ldP (n := 37) 3 rfl ?_
  refine step_ldR (n := 38) 3 rfl fun _ => ?_
  refine step_stR (n := 39) 3 rfl (payR m c 3) ?_
  exact h _ _

/-- The printed part 11 goes through events 40 to 43. -/
theorem part11 (v2 v5 v8 v10 v11 v13 v307 c2_i32_230 : BitVec 32) {rest : (PUnit) → Prog (TpuEff nD τ sig (Elt F) Λ₀ .tc) α}
    (h : St m c K (S 44) ⊢ WP c (rest ⟨⟩) Q) :
    St m c K (S 40) ⊢ WP c (on (k0_part11 (F := F)) c v2 v5 v8 v10 v11 v13 (sumP m c 3) v307 c2_i32_230 >>= rest) Q := by
  unfold on; rw [k0_part11_eq_skeleton]; unfold k0_part11_skel
  simp only [Prog.lift, Prog.bind_op, Prog.bind_ret, Prog.pure_eq_ret]
  refine step_send (n := 40) 11 rfl (Fin.ext (k0_dev18_eq c)) rfl rfl rfl rfl ?_
  refine step_send (n := 41) 19 rfl (Fin.ext (k0_dev19_eq c)) rfl rfl rfl rfl ?_
  refine step_ldO (n := 42) rfl fun _ => ?_
  refine step_stO (n := 43) 3 rfl (offO c 3) (payO m c 3) ?_
  exact h

/-- The printed part 12 goes through events 44 to 49. -/
theorem part12 (v2 v5 v8 v9 v10 : BitVec 32) {rest : (FVec F S128x1024 .f32) → Prog (TpuEff nD τ sig (Elt F) Λ₀ .tc) α}
    (h : St m c K (S 50) ⊢ WP c (rest (sumP m c 4)) Q) :
    St m c K (S 44) ⊢ WP c (on (k0_part12 (F := F)) c v2 v5 v8 v9 v10 >>= rest) Q := by
  unfold on; rw [k0_part12_eq_skeleton]; unfold k0_part12_skel
  simp only [Prog.lift, Prog.bind_op, Prog.bind_ret, Prog.pure_eq_ret]
  refine step_recv (n := 44) 4 rfl rfl rfl ?_
  refine step_ldL (n := 45) 4 rfl rfl ?_
  refine step_ldP (n := 46) 4 rfl ?_
  refine step_ldR (n := 47) 4 rfl fun _ => ?_
  refine step_stR (n := 48) 4 rfl (payR m c 4) ?_
  refine step_send (n := 49) 12 rfl (Fin.ext (k0_dev20_eq c)) rfl rfl rfl rfl ?_
  exact h

/-- The printed part 13 goes through events 50 to 57. -/
theorem part13 (v2 v5 v9 v11 v13 : BitVec 32) {rest : (Σ' (v395 : FVec F S128x1024 .f32) (v400 : BitVec 32), BitVec 32) → Prog (TpuEff nD τ sig (Elt F) Λ₀ .tc) α}
    (h : ∀ w w', St m c K (S 58) ⊢ WP c (rest ⟨sumP m c 5, w, w'⟩) Q) :
    St m c K (S 50) ⊢ WP c (on (k0_part13 (F := F)) c v2 v5 v9 v11 v13 (sumP m c 4) >>= rest) Q := by
  unfold on; rw [k0_part13_eq_skeleton]; unfold k0_part13_skel
  simp only [Prog.lift, Prog.bind_op, Prog.bind_ret, Prog.pure_eq_ret]
  refine step_send (n := 50) 20 rfl (Fin.ext (k0_dev21_eq c)) rfl rfl rfl rfl ?_
  refine step_ldO (n := 51) rfl fun _ => ?_
  refine step_stO (n := 52) 4 rfl (offO c 4) (payO m c 4) ?_
  refine step_recv (n := 53) 5 rfl rfl rfl ?_
  refine step_ldL (n := 54) 5 rfl rfl ?_
  refine step_ldP (n := 55) 5 rfl ?_
  refine step_ldR (n := 56) 5 rfl fun _ => ?_
  refine step_stR (n := 57) 5 rfl (payR m c 5) ?_
  exact h _ _

/-- The printed part 14 goes through events 58 to 61. -/
theorem part14 (v2 v5 v8 v10 v13 v400 c0_i32_301 : BitVec 32) {rest : (Σ' (v432 : BitVec 32), BitVec 32) → Prog (TpuEff nD τ sig (Elt F) Λ₀ .tc) α}
    (h : ∀ r, St m c K (S 62) ⊢ WP c (rest r) Q) :
    St m c K (S 58) ⊢ WP c (on (k0_part14 (F := F)) c v2 v5 v8 v10 v13 (sumP m c 5) v400 c0_i32_301 >>= rest) Q := by
  unfold on; rw [k0_part14_eq_skeleton]; unfold k0_part14_skel
  simp only [Prog.lift, Prog.bind_op, Prog.bind_ret, Prog.pure_eq_ret]
  refine step_send (n := 58) 13 rfl (Fin.ext (k0_dev22_eq c)) rfl rfl rfl rfl ?_
  refine step_send (n := 59) 21 rfl (Fin.ext (k0_dev23_eq c)) rfl rfl rfl rfl ?_
  refine step_ldO (n := 60) rfl fun _ => ?_
  refine step_stO (n := 61) 5 rfl (offO c 5) (payO m c 5) ?_
  exact h _

/-- The printed part 15 goes through events 62 to 67. -/
theorem part15 (v2 v5 v8 v9 v10 v11 v432 c1_i32_325 : BitVec 32) {rest : (Σ' (v442 : FVec F S128x1024 .f32) (v462 : BitVec 32), BitVec 32) → Prog (TpuEff nD τ sig (Elt F) Λ₀ .tc) α}
    (h : ∀ w w', St m c K (S 68) ⊢ WP c (rest ⟨sumP m c 6, w, w'⟩) Q) :
    St m c K (S 62) ⊢ WP c (on (k0_part15 (F := F)) c v2 v5 v8 v9 v10 v11 v432 c1_i32_325 >>= rest) Q := by
  unfold on; rw [k0_part15_eq_skeleton]; unfold k0_part15_skel
  simp only [Prog.lift, Prog.bind_op, Prog.bind_ret, Prog.pure_eq_ret]
  refine step_recv (n := 62) 6 rfl rfl rfl ?_
  refine step_ldL (n := 63) 6 rfl rfl ?_
  refine step_ldP (n := 64) 6 rfl ?_
  refine step_ldR (n := 65) 6 rfl fun _ => ?_
  refine step_stR (n := 66) 6 rfl (payR m c 6) ?_
  refine step_send (n := 67) 14 rfl (Fin.ext (k0_dev24_eq c)) rfl rfl rfl rfl ?_
  exact h _ _

/-- The printed part 16 goes through events 68 to 75. -/
theorem part16 (v2 v5 v11 v13 v462 v463 : BitVec 32) {rest : (Σ' (v489 : FVec F S128x1024 .f32), BitVec 32) → Prog (TpuEff nD τ sig (Elt F) Λ₀ .tc) α}
    (h : ∀ w, St m c K (S 76) ⊢ WP c (rest ⟨sumP m c 7, w⟩) Q) :
    St m c K (S 68) ⊢ WP c (on (k0_part16 (F := F)) c v2 v5 v11 v13 (sumP m c 6) v462 v463 >>= rest) Q := by
  unfold on; rw [k0_part16_eq_skeleton]; unfold k0_part16_skel
  simp only [Prog.lift, Prog.bind_op, Prog.bind_ret, Prog.pure_eq_ret]
  refine step_send (n := 68) 22 rfl (Fin.ext (k0_dev25_eq c)) rfl rfl rfl rfl ?_
  refine step_ldO (n := 69) rfl fun _ => ?_
  refine step_stO (n := 70) 6 rfl (offO c 6) (payO m c 6) ?_
  refine step_recv (n := 71) 7 rfl rfl rfl ?_
  refine step_ldL (n := 72) 7 rfl rfl ?_
  refine step_ldP (n := 73) 7 rfl ?_
  refine step_ldR (n := 74) 7 rfl fun _ => ?_
  refine step_stR (n := 75) 7 rfl (payR m c 7) ?_
  exact h _

/-- The printed part 17 goes through events 76 to 79. -/
theorem part17 (v2 v5 v8 v9 v10 v13 c4_i32_372 : BitVec 32) {rest : (Σ' (v524 : BitVec 32), BitVec 32) → Prog (TpuEff nD τ sig (Elt F) Λ₀ .tc) α}
    (h : ∀ r, St m c K (S 80) ⊢ WP c (rest r) Q) :
    St m c K (S 76) ⊢ WP c (on (k0_part17 (F := F)) c v2 v5 v8 v9 v10 v13 (sumP m c 7) c4_i32_372 >>= rest) Q := by
  unfold on; rw [k0_part17_eq_skeleton]; unfold k0_part17_skel
  simp only [Prog.lift, Prog.bind_op, Prog.bind_ret, Prog.pure_eq_ret]
  refine step_send (n := 76) 15 rfl (Fin.ext (k0_dev26_eq c)) rfl rfl rfl rfl ?_
  refine step_send (n := 77) 23 rfl (Fin.ext (k0_dev27_eq c)) rfl rfl rfl rfl ?_
  refine step_ldO (n := 78) rfl fun _ => ?_
  refine step_stO (n := 79) 7 rfl (offO c 7) (payO m c 7) ?_
  exact h _

/-- The printed part 18 goes through events 80 to 82. -/
theorem part18 (v2 v5 v8 v9 v10 v524 v525 : BitVec 32) {rest : (BitVec 32) → Prog (TpuEff nD τ sig (Elt F) Λ₀ .tc) α}
    (h : ∀ r, St m c K (S 83) ⊢ WP c (rest r) Q) :
    St m c K (S 80) ⊢ WP c (on (k0_part18 (F := F)) c v2 v5 v8 v9 v10 v524 v525 >>= rest) Q := by
  unfold on; rw [k0_part18_eq_skeleton]; unfold k0_part18_skel
  simp only [Prog.lift, Prog.bind_op, Prog.bind_ret, Prog.pure_eq_ret]
  refine step_recv (n := 80) 16 rfl rfl rfl ?_
  refine step_send (n := 81) 24 rfl (Fin.ext (k0_dev28_eq c)) rfl rfl rfl rfl ?_
  refine step_recv (n := 82) 17 rfl rfl rfl ?_
  exact h _

/-- The printed part 19 goes through events 83 to 84. -/
theorem part19 (v2 v5 v8 v9 v10 c4_i32_422 : BitVec 32) {rest : (PUnit) → Prog (TpuEff nD τ sig (Elt F) Λ₀ .tc) α}
    (h : St m c K (S 85) ⊢ WP c (rest ⟨⟩) Q) :
    St m c K (S 83) ⊢ WP c (on (k0_part19 (F := F)) c v2 v5 v8 v9 v10 c4_i32_422 >>= rest) Q := by
  unfold on; rw [k0_part19_eq_skeleton]; unfold k0_part19_skel
  simp only [Prog.lift, Prog.bind_op, Prog.bind_ret, Prog.pure_eq_ret]
  refine step_send (n := 83) 25 rfl (Fin.ext (k0_dev29_eq c)) rfl rfl rfl rfl ?_
  refine step_recv (n := 84) 18 rfl rfl rfl ?_
  exact h

/-- The printed part 20 goes through events 85 to 87. -/
theorem part20 (v2 v5 v8 v9 v10 : BitVec 32) {rest : (PUnit) → Prog (TpuEff nD τ sig (Elt F) Λ₀ .tc) α}
    (h : St m c K (S 88) ⊢ WP c (rest ⟨⟩) Q) :
    St m c K (S 85) ⊢ WP c (on (k0_part20 (F := F)) c v2 v5 v8 v9 v10 >>= rest) Q := by
  unfold on; rw [k0_part20_eq_skeleton]; unfold k0_part20_skel
  simp only [Prog.lift, Prog.bind_op, Prog.bind_ret, Prog.pure_eq_ret]
  refine step_send (n := 85) 26 rfl (Fin.ext (k0_dev30_eq c)) rfl rfl rfl rfl ?_
  refine step_recv (n := 86) 19 rfl rfl rfl ?_
  refine step_send (n := 87) 27 rfl (Fin.ext (k0_dev31_eq c)) rfl rfl rfl rfl ?_
  exact h

/-- The printed part 21 goes through events 88 to 90. -/
theorem part21 (v2 v5 v8 v9 v10 : BitVec 32) {rest : (Σ' (v644 : BitVec 32), BitVec 32) → Prog (TpuEff nD τ sig (Elt F) Λ₀ .tc) α}
    (h : ∀ r, St m c K (S 91) ⊢ WP c (rest r) Q) :
    St m c K (S 88) ⊢ WP c (on (k0_part21 (F := F)) c v2 v5 v8 v9 v10 >>= rest) Q := by
  unfold on; rw [k0_part21_eq_skeleton]; unfold k0_part21_skel
  simp only [Prog.lift, Prog.bind_op, Prog.bind_ret, Prog.pure_eq_ret]
  refine step_recv (n := 88) 12 rfl rfl rfl ?_
  refine step_send (n := 89) 28 rfl (Fin.ext (k0_dev32_eq c)) rfl rfl rfl rfl ?_
  refine step_recv (n := 90) 13 rfl rfl rfl ?_
  exact h _

/-- The printed part 22 goes through events 91 to 93. -/
theorem part22 (v2 v5 v8 v9 v10 v644 c2_i32_500 : BitVec 32) {rest : (PUnit) → Prog (TpuEff nD τ sig (Elt F) Λ₀ .tc) α}
    (h : St m c K (S 94) ⊢ WP c (rest ⟨⟩) Q) :
    St m c K (S 91) ⊢ WP c (on (k0_part22 (F := F)) c v2 v5 v8 v9 v10 v644 c2_i32_500 >>= rest) Q := by
  unfold on; rw [k0_part22_eq_skeleton]; unfold k0_part22_skel
  simp only [Prog.lift, Prog.bind_op, Prog.bind_ret, Prog.pure_eq_ret]
  refine step_send (n := 91) 29 rfl (Fin.ext (k0_dev33_eq c)) rfl rfl rfl rfl ?_
  refine step_recv (n := 92) 14 rfl rfl rfl ?_
  refine step_send (n := 93) 30 rfl (Fin.ext (k0_dev34_eq c)) rfl rfl rfl rfl ?_
  exact h

/-- The printed part 23 goes through events 94 to 95. -/
theorem part23 (v2 v5 v8 v9 v10 : BitVec 32) {rest : (PUnit) → Prog (TpuEff nD τ sig (Elt F) Λ₀ .tc) α}
    (h : St m c K (S 96) ⊢ WP c (rest ⟨⟩) Q) :
    St m c K (S 94) ⊢ WP c (on (k0_part23 (F := F)) c v2 v5 v8 v9 v10 >>= rest) Q := by
  unfold on; rw [k0_part23_eq_skeleton]; unfold k0_part23_skel
  simp only [Prog.lift, Prog.bind_op, Prog.bind_ret, Prog.pure_eq_ret]
  refine step_recv (n := 94) 15 rfl rfl rfl ?_
  refine step_send (n := 95) 31 rfl (Fin.ext (k0_dev35_eq c)) rfl rfl rfl rfl ?_
  exact h

/-- The printed part 24 goes through events 96 to 98. -/
theorem part24 (v5 v8 v9 : BitVec 32) {rest : (PUnit) → Prog (TpuEff nD τ sig (Elt F) Λ₀ .tc) α}
    (h : St m c K (S 99) ⊢ WP c (rest ⟨⟩) Q) :
    St m c K (S 96) ⊢ WP c (on (k0_part24 (F := F)) v5 v8 v9 >>= rest) Q := by
  unfold on; rw [k0_part24_eq_skeleton]; unfold k0_part24_skel
  simp only [Prog.lift, Prog.bind_op, Prog.bind_ret, Prog.pure_eq_ret]
  refine step_recv (n := 96) 8 rfl rfl rfl ?_
  refine step_recv (n := 97) 9 rfl rfl rfl ?_
  refine step_recv (n := 98) 10 rfl rfl rfl ?_
  exact h

/-- The printed part 25 goes through events 99 to 101. -/
theorem part25 (v2 v8 v10 : BitVec 32) {rest : (Σ' (v762 : BitVec 32), BitVec 32) → Prog (TpuEff nD τ sig (Elt F) Λ₀ .tc) α}
    (h : ∀ r, St m c K (S 102) ⊢ WP c (rest r) Q) :
    St m c K (S 99) ⊢ WP c (on (k0_part25 (F := F)) v2 v8 v10 >>= rest) Q := by
  unfold on; rw [k0_part25_eq_skeleton]; unfold k0_part25_skel
  simp only [Prog.lift, Prog.bind_op, Prog.bind_ret, Prog.pure_eq_ret]
  refine step_recv (n := 99) 11 rfl rfl rfl ?_
  refine step_recv (n := 100) 20 rfl rfl rfl ?_
  refine step_recv (n := 101) 21 rfl rfl rfl ?_
  exact h _

/-- The printed part 26 goes through events 102 to 109. -/
theorem part26 (v2 v5 v8 v9 v10 v16 v19 v762 c1_i32_609 : BitVec 32) {rest : (Σ' (v790 : BitVec 32), BitVec 32) → Prog (TpuEff nD τ sig (Elt F) Λ₀ .tc) α}
    (h : ∀ r, St m c K (S 110) ⊢ WP c (rest r) Q) :
    St m c K (S 102) ⊢ WP c (on (k0_part26 (F := F)) c v2 v5 v8 v9 v10 v16 v19 v762 c1_i32_609 >>= rest) Q := by
  unfold on; rw [k0_part26_eq_skeleton]; unfold k0_part26_skel
  simp only [Prog.lift, Prog.bind_op, Prog.bind_ret, Prog.pure_eq_ret]
  refine step_recv (n := 102) 22 rfl rfl rfl ?_
  refine step_recv (n := 103) 23 rfl rfl rfl ?_
  refine step_ldW (n := 104) 1 rfl rfl ?_
  refine step_ldO (n := 105) rfl fun _ => ?_
  refine step_stQ (n := 106) 1 rfl (off1 c) ?_
  refine step_ldW (n := 107) 2 rfl rfl ?_
  refine step_ldO (n := 108) rfl fun _ => ?_
  refine step_stQ (n := 109) 2 rfl (off2 c) ?_
  exact h _

/-- The printed part 27 goes through events 110 to 112. -/
theorem part27 (v5 v8 v9 v790 c1_i32_637 : BitVec 32) {rest : (Σ' (v818 : BitVec 32), BitVec 32) → Prog (TpuEff nD τ sig (Elt F) Λ₀ .tc) α}
    (h : ∀ r, St m c K (S 113) ⊢ WP c (rest r) Q) :
    St m c K (S 110) ⊢ WP c (on (k0_part27 (F := F)) v5 v8 v9 v790 c1_i32_637 >>= rest) Q := by
  unfold on; rw [k0_part27_eq_skeleton]; unfold k0_part27_skel
  simp only [Prog.lift, Prog.bind_op, Prog.bind_ret, Prog.pure_eq_ret]
  refine step_recv (n := 110) 24 rfl rfl rfl ?_
  refine step_recv (n := 111) 25 rfl rfl rfl ?_
  refine step_recv (n := 112) 26 rfl rfl rfl ?_
  exact h _

/-- The printed part 28 goes through events 113 to 115. -/
theorem part28 (v2 v5 v8 v10 v818 c2_i32_666 : BitVec 32) {rest : (BitVec 32) → Prog (TpuEff nD τ sig (Elt F) Λ₀ .tc) α}
    (h : ∀ r, St m c K (S 116) ⊢ WP c (rest r) Q) :
    St m c K (S 113) ⊢ WP c (on (k0_part28 (F := F)) v2 v5 v8 v10 v818 c2_i32_666 >>= rest) Q := by
  unfold on; rw [k0_part28_eq_skeleton]; unfold k0_part28_skel
  simp only [Prog.lift, Prog.bind_op, Prog.bind_ret, Prog.pure_eq_ret]
  refine step_recv (n := 113) 27 rfl rfl rfl ?_
  refine step_recv (n := 114) 28 rfl rfl rfl ?_
  refine step_recv (n := 115) 29 rfl rfl rfl ?_
  exact h _

/-- The printed part 29 goes through events 116 to 121. -/
theorem part29 (v2 v8 v10 v23 v847 : BitVec 32) {rest : (PUnit) → Prog (TpuEff nD τ sig (Elt F) Λ₀ .tc) α}
    (h : St m c K (S 122) ⊢ WP c (rest ⟨⟩) Q) :
    St m c K (S 116) ⊢ WP c (on (k0_part29 (F := F)) c v2 v8 v10 v23 v847 >>= rest) Q := by
  unfold on; rw [k0_part29_eq_skeleton]; unfold k0_part29_skel
  simp only [Prog.lift, Prog.bind_op, Prog.bind_ret, Prog.pure_eq_ret]
  refine step_recv (n := 116) 30 rfl rfl rfl ?_
  refine step_recv (n := 117) 31 rfl rfl rfl ?_
  refine step_ldW (n := 118) 3 rfl rfl ?_
  refine step_ldO (n := 119) rfl fun _ => ?_
  refine step_stQ (n := 120) 3 rfl (off3 c) ?_
  refine step_back (n := 121) 0 rfl rfl rfl ?_
  exact h

/-- The printed part 30 goes through events 122 to 126. -/
theorem part30 {rest : (PUnit) → Prog (TpuEff nD τ sig (Elt F) Λ₀ .tc) α}
    (h : St m c K (S 127) ⊢ WP c (rest ⟨⟩) Q) :
    St m c K (S 122) ⊢ WP c (on (k0_part30 (F := F))  >>= rest) Q := by
  unfold on; rw [k0_part30_eq_skeleton]; unfold k0_part30_skel
  simp only [Prog.lift, Prog.bind_op, Prog.bind_ret, Prog.pure_eq_ret]
  refine step_back (n := 122) 1 rfl rfl rfl ?_
  refine step_back (n := 123) 2 rfl rfl rfl ?_
  refine step_back (n := 124) 3 rfl rfl rfl ?_
  refine step_back (n := 125) 4 rfl rfl rfl ?_
  refine step_back (n := 126) 5 rfl rfl rfl ?_
  exact h

/-- The printed part 31 goes through events 127 to 131. -/
theorem part31 {rest : (PUnit) → Prog (TpuEff nD τ sig (Elt F) Λ₀ .tc) α}
    (h : St m c K (S 132) ⊢ WP c (rest ⟨⟩) Q) :
    St m c K (S 127) ⊢ WP c (on (k0_part31 (F := F))  >>= rest) Q := by
  unfold on; rw [k0_part31_eq_skeleton]; unfold k0_part31_skel
  simp only [Prog.lift, Prog.bind_op, Prog.bind_ret, Prog.pure_eq_ret]
  refine step_back (n := 127) 6 rfl rfl rfl ?_
  refine step_back (n := 128) 7 rfl rfl rfl ?_
  refine step_back (n := 129) 8 rfl rfl rfl ?_
  refine step_back (n := 130) 16 rfl rfl rfl ?_
  refine step_back (n := 131) 9 rfl rfl rfl ?_
  exact h

/-- The printed part 32 goes through events 132 to 136. -/
theorem part32 {rest : (PUnit) → Prog (TpuEff nD τ sig (Elt F) Λ₀ .tc) α}
    (h : St m c K (S 137) ⊢ WP c (rest ⟨⟩) Q) :
    St m c K (S 132) ⊢ WP c (on (k0_part32 (F := F))  >>= rest) Q := by
  unfold on; rw [k0_part32_eq_skeleton]; unfold k0_part32_skel
  simp only [Prog.lift, Prog.bind_op, Prog.bind_ret, Prog.pure_eq_ret]
  refine step_back (n := 132) 17 rfl rfl rfl ?_
  refine step_back (n := 133) 10 rfl rfl rfl ?_
  refine step_back (n := 134) 18 rfl rfl rfl ?_
  refine step_back (n := 135) 11 rfl rfl rfl ?_
  refine step_back (n := 136) 19 rfl rfl rfl ?_
  exact h

/-- The printed part 33 goes through events 137 to 141. -/
theorem part33 {rest : (PUnit) → Prog (TpuEff nD τ sig (Elt F) Λ₀ .tc) α}
    (h : St m c K (S 142) ⊢ WP c (rest ⟨⟩) Q) :
    St m c K (S 137) ⊢ WP c (on (k0_part33 (F := F))  >>= rest) Q := by
  unfold on; rw [k0_part33_eq_skeleton]; unfold k0_part33_skel
  simp only [Prog.lift, Prog.bind_op, Prog.bind_ret, Prog.pure_eq_ret]
  refine step_back (n := 137) 12 rfl rfl rfl ?_
  refine step_back (n := 138) 20 rfl rfl rfl ?_
  refine step_back (n := 139) 13 rfl rfl rfl ?_
  refine step_back (n := 140) 21 rfl rfl rfl ?_
  refine step_back (n := 141) 14 rfl rfl rfl ?_
  exact h

/-- The printed part 34 goes through events 142 to 146. -/
theorem part34 {rest : (PUnit) → Prog (TpuEff nD τ sig (Elt F) Λ₀ .tc) α}
    (h : St m c K (S 147) ⊢ WP c (rest ⟨⟩) Q) :
    St m c K (S 142) ⊢ WP c (on (k0_part34 (F := F))  >>= rest) Q := by
  unfold on; rw [k0_part34_eq_skeleton]; unfold k0_part34_skel
  simp only [Prog.lift, Prog.bind_op, Prog.bind_ret, Prog.pure_eq_ret]
  refine step_back (n := 142) 22 rfl rfl rfl ?_
  refine step_back (n := 143) 15 rfl rfl rfl ?_
  refine step_back (n := 144) 23 rfl rfl rfl ?_
  refine step_back (n := 145) 24 rfl rfl rfl ?_
  refine step_back (n := 146) 25 rfl rfl rfl ?_
  exact h

/-- The printed part 35 goes through events 147 to 151. -/
theorem part35 {rest : (PUnit) → Prog (TpuEff nD τ sig (Elt F) Λ₀ .tc) α}
    (h : St m c K (S 152) ⊢ WP c (rest ⟨⟩) Q) :
    St m c K (S 147) ⊢ WP c (on (k0_part35 (F := F))  >>= rest) Q := by
  unfold on; rw [k0_part35_eq_skeleton]; unfold k0_part35_skel
  simp only [Prog.lift, Prog.bind_op, Prog.bind_ret, Prog.pure_eq_ret]
  refine step_back (n := 147) 26 rfl rfl rfl ?_
  refine step_back (n := 148) 27 rfl rfl rfl ?_
  refine step_back (n := 149) 28 rfl rfl rfl ?_
  refine step_back (n := 150) 29 rfl rfl rfl ?_
  refine step_back (n := 151) 30 rfl rfl rfl ?_
  exact h

end Cert.Cube

end
-- ==== Proof.Chain.lean ====
/-
The whole program of a device.
-/
module

public import proofs.«01_k».proof.Proof.Parts

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA Auth

variable {F : FTy → Type} [FloatOps F]

local notation "𝕄" => MT nD τ sig Unit (Elt F) ℕ UU ℕ

/-! ## From the barrier to the end -/

variable {m : (ℓ : Loc nD τ sig) → Buf (Elt F) ℓ} {c : Dev nD} {K : Dev nD × Fin 66 → ℕ} {Q : PUnit → sProp (MT nD τ sig Unit (Elt F) ℕ UU ℕ)}

/-- The program without its first two parts, as a function of the words these compute. -/
def later (c : Dev nD) (v2 v5 v8 v9 v10 v11 v13 v16 v19 v23 : BitVec 32) : Prog (TpuEff nD τ sig (Elt F) Λ₀ .tc) PUnit := do
  let ⟨v90, v91⟩ ← on (k0_part3 (F := F)) c v2 v5 v11
  on (k0_part4 (F := F)) c v2 v5 v11 v90 v91
  on (k0_part5 (F := F)) c v2 v5 v11
  let v160 ← on (k0_part6 (F := F)) c v2 v5 v8 v9 v10
  let ⟨v207, v215⟩ ← on (k0_part7 (F := F)) c v2 v5 v9 v11 v13 v160
  on (k0_part8 (F := F)) c v2 v5 v8 v10 v11 v13 v207 v215
  let v254 ← on (k0_part9 (F := F)) c v2 v5 v8 v9 v10
  let ⟨v301, v307, c2_i32_230⟩ ← on (k0_part10 (F := F)) c v2 v5 v9 v11 v13 v254
  on (k0_part11 (F := F)) c v2 v5 v8 v10 v11 v13 v301 v307 c2_i32_230
  let v348 ← on (k0_part12 (F := F)) c v2 v5 v8 v9 v10
  let ⟨v395, v400, c0_i32_301⟩ ← on (k0_part13 (F := F)) c v2 v5 v9 v11 v13 v348
  let ⟨v432, c1_i32_325⟩ ← on (k0_part14 (F := F)) c v2 v5 v8 v10 v13 v395 v400 c0_i32_301
  let ⟨v442, v462, v463⟩ ← on (k0_part15 (F := F)) c v2 v5 v8 v9 v10 v11 v432 c1_i32_325
  let ⟨v489, c4_i32_372⟩ ← on (k0_part16 (F := F)) c v2 v5 v11 v13 v442 v462 v463
  let ⟨v524, v525⟩ ← on (k0_part17 (F := F)) c v2 v5 v8 v9 v10 v13 v489 c4_i32_372
  let c4_i32_422 ← on (k0_part18 (F := F)) c v2 v5 v8 v9 v10 v524 v525
  on (k0_part19 (F := F)) c v2 v5 v8 v9 v10 c4_i32_422
  on (k0_part20 (F := F)) c v2 v5 v8 v9 v10
  let ⟨v644, c2_i32_500⟩ ← on (k0_part21 (F := F)) c v2 v5 v8 v9 v10
  on (k0_part22 (F := F)) c v2 v5 v8 v9 v10 v644 c2_i32_500
  on (k0_part23 (F := F)) c v2 v5 v8 v9 v10
  on (k0_part24 (F := F)) v5 v8 v9
  let ⟨v762, c1_i32_609⟩ ← on (k0_part25 (F := F)) v2 v8 v10
  let ⟨v790, c1_i32_637⟩ ← on (k0_part26 (F := F)) c v2 v5 v8 v9 v10 v16 v19 v762 c1_i32_609
  let ⟨v818, c2_i32_666⟩ ← on (k0_part27 (F := F)) v5 v8 v9 v790 c1_i32_637
  let v847 ← on (k0_part28 (F := F)) v2 v5 v8 v10 v818 c2_i32_666
  on (k0_part29 (F := F)) c v2 v8 v10 v23 v847
  on (k0_part30 (F := F))
  on (k0_part31 (F := F))
  on (k0_part32 (F := F))
  on (k0_part33 (F := F))
  on (k0_part34 (F := F))
  on (k0_part35 (F := F))
  Prog.lift (.waitDma2 (sendS 31) (pM 5 7) (pM 3 7)
    ((Memref.isWhole_whole cc0_scratch6).wordExact_slice rfl _ wordsbf16_S1024x1024_S128x1024_896_0)
    ((Memref.isWhole_whole cc0_scratch4).wordExact_slice rfl _ wordsbf16_S1024x1024_S128x1024_896_0))
  pure ⟨⟩

/-- The program is its first two parts and the rest. -/
theorem body_split : on (cc0_body (F := F)) = (do
    let ⟨d0, v2, v5, v8, v9, v10, v11, v13, v16, v19, v23⟩ ← on (k0_part1 (F := F))
    on (k0_part2 (F := F)) d0 v2 v5 v8 v9 v10 v11
    later d0 v2 v5 v8 v9 v10 v11 v13 v16 v19 v23) := by
  unfold on; rw [cc0_body_eq_skeleton]; rfl

/-- From what is held after the barrier to what is held at the end. -/
theorem later_run (v2 v5 v8 v9 v10 v11 v13 v16 v19 v23 : BitVec 32) (h : St m c K (S 153) ⊢ WP c (Prog.ret ⟨⟩) Q) :
    St m c K (S 0) ⊢ WP c (later (F := F) c v2 v5 v8 v9 v10 v11 v13 v16 v19 v23) Q := by
  unfold later
  apply part3; intro _
  apply part4; apply part5; apply part6
  apply part7; intros
  apply part8; apply part9
  apply part10; intros
  apply part11; apply part12
  apply part13; intros
  apply part14; intros
  apply part15; intros
  apply part16; intros
  apply part17; intros
  apply part18; intros
  apply part19; apply part20
  apply part21; intros
  apply part22; apply part23; apply part24
  apply part25; intros
  apply part26; intros
  apply part27; intros
  apply part28; intros
  apply part29; apply part30; apply part31; apply part32; apply part33; apply part34; apply part35
  simp only [Prog.lift, Prog.bind_op, Prog.bind_ret, Prog.pure_eq_ret]
  exact step_back (n := 152) 31 rfl rfl rfl h

end Cert.Cube

end
-- ==== Proof.Start.lean ====
/-
The start of the program: the local copy, the handshake; and the whole program.
-/
module

public import proofs.«01_k».proof.Proof.Chain

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA Auth

variable {F : FTy → Type} [FloatOps F]

local notation "𝕄" => MT nD τ sig Unit (Elt F) ℕ UU ℕ

variable {m : (ℓ : Loc nD τ sig) → Buf (Elt F) ℓ} {c : Dev nD} {K : Dev nD × Fin 66 → ℕ} {α : Type} {Q : α → sProp (MT nD τ sig Unit (Elt F) ℕ UU ℕ)}

/-! ## What a device owes at the start -/

/-- Before the handshake a device owes a unit to each neighbour's barrier cell, and every slot's credit. -/
def O₀ (c : Dev nD) : CellTallies nD τ sig Unit :=
  OB c Finset.univ + tallyAt (barCell (nz c)) () 1 + tallyAt (barCell (ny c)) () 1 + tallyAt (barCell (nx c)) () 1

/-- What is owed at the start is owed to barriers and receive semaphores. -/
theorem O₀_pos {c : Dev nD} {g : GSem nD τ sig} {u : Unit} (h : 0 < O₀ c g u) :
    (∃ i, g = recvCell (tgt c i) i) ∨ ∃ d, g = barCell (nb d c) := by
  unfold O₀ at h
  rw [Pi.add_apply, Finsupp.add_apply, Pi.add_apply, Finsupp.add_apply, Pi.add_apply, Finsupp.add_apply, tallyAt_apply, tallyAt_apply, tallyAt_apply] at h
  by_contra hn
  rw [not_or, not_exists, not_exists] at hn
  have h0 : OB c Finset.univ g u = 0 := by
    by_contra h'
    obtain ⟨i, -, hi⟩ := OB_pos (Nat.pos_of_ne_zero h')
    exact hn.1 i hi
  rw [if_neg (fun h' => hn.2 2 h'.1), if_neg (fun h' => hn.2 1 h'.1), if_neg (fun h' => hn.2 0 h'.1), h0] at h
  exact Nat.lt_irrefl 0 h

/-- The receive semaphores are above the barrier. -/
theorem rk_two (i : Fin 32) : 2 ≤ rk i := by unfold rk; (repeat' split) <;> omega

/-- A wait on a semaphore of level 0 is allowed at the start. -/
theorem mayWait_start (c : Dev nD) (sm : SemLoc sig) (h : lvS sm = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by rcases O₀_pos hg with ⟨i, rfl⟩ | ⟨d, rfl⟩ <;> exact Finset.mem_singleton_self _)
    (fun p hp => by rw [Finset.mem_singleton.mp hp]; exact le_of_eq h)
    (fun g u hg => by
      rcases O₀_pos hg with ⟨i, rfl⟩ | ⟨d, rfl⟩
      · exact lt_of_lt_of_eq (lt_of_lt_of_le (by decide) (rk_two i)) (lvS_recv i).symm
      · exact Nat.one_pos)

/-! ## The pieces handed over with the ready signals -/

/-- A sum over the slots, by direction. -/
theorem by_dir (Φ : Fin 32 → sProp (MT nD τ sig Unit (Elt F) ℕ UU ℕ)) :
    bigSep Finset.univ Φ = iprop((bigSep (Finset.univ.filter fun i => dir i = 0) Φ)
      ∗ (bigSep (Finset.univ.filter fun i => dir i = 1) Φ) ∗ (bigSep (Finset.univ.filter fun i => dir i = 2) Φ)) := by
  have h : (Finset.univ : Finset (Fin 32)) = (Finset.univ.filter fun i => dir i = 0) ∪ ((Finset.univ.filter fun i => dir i = 1) ∪ (Finset.univ.filter fun i => dir i = 2)) := by
    decide
  conv => lhs; rw [h]
  rw [bigSep_union (by decide), bigSep_union (by decide)]
  rfl

/-- A device's own pieces to receive into, by the neighbour that will fill them. -/
theorem own_blanks (c : Dev nD) :
    (bigSep Finset.univ fun i => blank (F := F) c (dstB i) (sub i)) = iprop(barPay (nx c) 0 ∗ barPay (ny c) 1 ∗ barPay (nz c) 2) := by
  have h (d : Fin 3) : (bigSep (Finset.univ.filter fun i => dir i = d) fun i => blank (F := F) c (dstB i) (sub i)) = barPay (nb d c) d := by
    unfold barPay; rw [nb_nb]
  rw [by_dir, h 0, h 1, h 2]
  rfl

/-- The neighbours' pieces, as the targets of a device's slots. -/
theorem tgt_blanks (c : Dev nD) :
    iprop(barPay c 0 ∗ barPay c 1 ∗ barPay c 2) = (bigSep Finset.univ fun i => blank (F := F) (tgt c i) (dstB i) (sub i)) := by
  have h (d : Fin 3) : (bigSep (Finset.univ.filter fun i => dir i = d) fun i => blank (F := F) (tgt c i) (dstB i) (sub i)) = barPay c d := by
    unfold barPay
    exact bigSep_congr fun i hi => by rw [show tgt c i = nb d c from by unfold tgt; rw [(Finset.mem_filter.mp hi).2]]
  rw [by_dir, h 0, h 1, h 2]

/-- A slot's tokens and its target piece, together. -/
theorem join_T (c : Dev nD) :
    iprop((bigSep Finset.univ fun i => iprop(dutyTok ER (sendCell c i) 0 0 ∗ dutyTok ER (recvCell (tgt c i) i) 0 0))
        ∗ (bigSep Finset.univ fun i => blank (F := F) (tgt c i) (dstB i) (sub i)))
      ⊢ bigSep Finset.univ fun i => iprop(dutyTok ER (sendCell c i) 0 0 ∗ dutyTok ER (recvCell (tgt c i) i) 0 0 ∗ blank (tgt c i) (dstB i) (sub i)) := by
  rw [← bigSep_sep']
  exact bigSep_mono fun i _ => show iprop((dutyTok ER (sendCell c i) 0 0 ∗ dutyTok ER (recvCell (tgt c i) i) 0 0) ∗ blank (F := F) (tgt c i) (dstB i) (sub i)) ⊢ _ by
    iintro ⟨⟨H1, H2⟩, H3⟩
    isplitl [H1]; · iexact H1
    isplitl [H2] <;> iassumption

/-- The half shares of a buffer's pieces, from the pieces. -/
theorem halves (c : Dev nD) (b : Fin 6) :
    (bigSep Finset.univ fun s : Fin 8 => pc m c fullShare b s) ⊢ bigSep (Finset.univ.image fun p : Fin 8 × Bool => (b, p.1, p.2)) fun p => pc m c (hs p.2.2) p.1 p.2.1 := by
  have hi : (Finset.univ.image fun p : Fin 8 × Bool => (b, p.1, p.2)) = Finset.univ.map ⟨fun p : Fin 8 × Bool => (b, p.1, p.2), fun p q h => by
      simpa [Prod.ext_iff] using h⟩ := by rw [Finset.map_eq_image]; rfl
  rw [hi, bigSep_map, bigSep_univ_prod]
  refine bigSep_mono fun s _ => ?_
  rw [bigSep_univ_eq_bigSepL [false, true] (by decide) (by decide)]
  exact pc_halves m c b s

/-! ## The first part: the local copy and what is sent along z -/

/-- What a device holds through its first two parts: the tokens of its slots, its positions and credits, the sum's
    pieces and the result's buffer. -/
def keep (c : Dev nD) (K : Dev nD × Fin 66 → ℕ) : sProp 𝕄 :=
  iprop((bigSep Finset.univ fun i => iprop(dutyTok ER (sendCell c i) 0 0 ∗ dutyTok ER (recvCell (tgt c i) i) 0 0))
    ∗ (bigSep Finset.univ fun i => iprop(atPos ER (recvCell c i) 0 ∅ 0 ∗ cred (tallyAt (recvCell c i) () N)))
    ∗ (bigSep Finset.univ fun i => atPos ER (sendCell c i) 0 ∅ 0)
    ∗ (bigSep Finset.univ fun s => blank c 2 s)
    ∗ (∃ Z, owns (c : Thread nD τ) oM fullShare Z))

/-- What it needs for the handshake: the tokens of its neighbours' barriers, its own barrier's position and credit, and its pieces. -/
def shake (c : Dev nD) : sProp 𝕄 :=
  iprop(dutyTok ER (barCell (nx c)) 0 0 ∗ dutyTok ER (barCell (ny c)) 0 1 ∗ dutyTok ER (barCell (nz c)) 0 2
    ∗ atPos ER (barCell c) 0 ∅ 0 ∗ cred (tallyAt (barCell c) () 3) ∗ (bigSep Finset.univ fun i => blank c (dstB i) (sub i)))

/-- A device's argument. -/
abbrev xPts (m : (ℓ : Loc nD τ sig) → Buf (Elt F) ℓ) (c : Dev nD) : sProp 𝕄 :=
  iprop(((c : Thread nD τ).loc main_arg0) ↦{fullShare} m ((c : Thread nD τ).loc main_arg0))

/-- At the start. -/
def Pre (m : (ℓ : Loc nD τ sig) → Buf (Elt F) ℓ) (c : Dev nD) (K : Dev nD × Fin 66 → ℕ) : sProp 𝕄 :=
  iprop(recs m K ∗ (∃ W, owes (c : Thread nD τ) (O₀ c) W) ∗ keep c K ∗ shake c
    ∗ (dutyTok ER (locCell c) 0 0 ∗ atPos ER (locCell c) 0 ∅ 0) ∗ xPts m c
    ∗ (∃ X, owns (c : Thread nD τ) lM fullShare X) ∗ (∃ X, owns (c : Thread nD τ) (bM 0) fullShare X))

/-- After the first part. -/
def Mid (m : (ℓ : Loc nD τ sig) → Buf (Elt F) ℓ) (c : Dev nD) (K : Dev nD × Fin 66 → ℕ) : sProp 𝕄 :=
  iprop(recs m K ∗ (∃ W, owes (c : Thread nD τ) (O₀ c) W) ∗ keep c K ∗ shake c
    ∗ semVal (locCell c) 0 ∗ xPts m c
    ∗ owns (c : Thread nD τ) lM fullShare (Lq m c) ∗ owns (c : Thread nD τ) (bM 0) fullShare (Sv m c))

/-- The whole rectangle's places are the places themselves. -/
theorem rW_emb (j : rW.shape.Idx) : rW.emb j = j := funext fun a => Fin.ext (by
    show (![0, 0] : Fin 2 → ℕ) a + 1 * (j a).val = (j a).val
    match a with
    | 0 => show 0 + 1 * (j 0).val = (j 0).val; omega
    | 1 => show 0 + 1 * (j 1).val = (j 1).val; omega)

/-- The local copy counts its credit. -/
theorem amountL_eq (q : DmaSem sig) : (lM : Memref sig .tc .vmem S1024x1024 .f32).view.amount (.dma q) = NL := creditL_eq

/-- The local copy of the quarter: the copy and its wait. -/
theorem copy_core (κ : ℕ) (W : Waits sig Unit) (X : S1024x1024.Idx → Elt F .f32)
    {hsrc hsrc' : (xq c).view.WordExact} {hdst hdst' : lM.view.WordExact} {hsem : DmaTarget.Typed (nD := nD) .hbm (.dma locS) (.here (p := (c : Thread nD τ).2) lM)}
    {k : PUnit → Prog (TpuEff nD τ sig (Elt F) Λ₀ .tc) α} :
    iprop(cellInv ER (Rd (F := F) m) κ (locCell c) ∗ reached ER (locCell c) 0 ∗ levAts L lv ∗ owes (c : Thread nD τ) (O₀ c) W
        ∗ (dutyTok ER (locCell c) 0 0 ∗ atPos ER (locCell c) 0 ∅ 0) ∗ xPts m c ∗ owns (c : Thread nD τ) lM fullShare X)
      ⊢ iprop((((∃ W, owes (c : Thread nD τ) (O₀ c) W) ∗ semVal (locCell c) 0 ∗ xPts m c ∗ owns (c : Thread nD τ) lM fullShare (Lq m c)) -∗ WP c (k ⟨⟩) Q)
          -∗ WP c (.op (.enqueueDma (xq c) (.here lM) (.dma locS) hsrc hdst hsem) fun _ => .op (.waitDma2 locS (xq c) lM hsrc' hdst') k) Q) := by
  iintro ⟨#HI, #HR, #Hlev, HO, ⟨Htok, Hat⟩, Hx, Hl⟩ Hk
  ihave Hl' := (owns_open c lM fullShare X) $$ Hl
  icases Hl' with ⟨%fd, %hfd, Hl⟩
  have hsp : (xPts m c : sProp (MT nD τ sig Unit (Elt F) ℕ UU ℕ))
      ⊣⊢ iprop(((xq c).view.loc (c : Thread nD τ) ↦[(xq c).view.set]{fullShare} m ((c : Thread nD τ).loc main_arg0))
        ∗ ((xq c).view.loc (c : Thread nD τ) ↦[Finset.univ \ (xq c).view.set]{fullShare} m ((c : Thread nD τ).loc main_arg0))) :=
    pointsTo_split_subset (Finset.subset_univ _)
  ihave Hx' := hsp.1 $$ Hx
  icases Hx' with ⟨Hx, Hxr⟩
  iapply (Rounds.wp_copy_pointsTo 𝒱₀ ER (Rd (F := F) m) (c : Thread nD τ) none (κ := κ) (r := 0) (d := 0) (q := fullShare)
    (fs := m ((c : Thread nD τ).loc main_arg0)) (fd := fd)
    (by rw [duties_loc]; exact Finset.mem_singleton_self _) () NL (amountL_eq locS) (amount_loc m c 0)
    (by
      rw [payload_loc]; unfold locPay
      have e : lM.view.read (Elt F) (lM.view.write (Elt F) fd ((xq c).view.read (Elt F) (m ((c : Thread nD τ).loc main_arg0))) Finset.univ) = Lq m c :=
        View.read_write_univ fd _
      exact sep_mono_left ((owns_intro (c : Thread nD τ) lM fullShare _).trans
        (Entails.of_eq (congrArg (fun Y => (owns (c : Thread nD τ) lM fullShare Y : sProp 𝕄)) e))))) $$ [Hx Hl Htok]
  · isplitr; · iexact HI
    isplitl [Hx]; · iexact Hx
    isplitl [Hl]; · iexact Hl
    isplitl [Htok]; · iexact Htok
    iexact HR
  iintro Hc
  iapply (Rounds.wp_wait_rest_token 𝒱₀ ER (Rd (F := F) m) (c : Thread nD τ) none (κ := κ)
    (wpE_waitDma2_eq 𝒱₀ (c : Thread nD τ) none Set.univ) (Set.mem_univ _) () (O := O₀ c) (W := W) (R := 0) (m := 0) (T := ∅)
    ((Nat.zero_add _).trans (creditL_eq.trans (expect_loc m c).symm))) $$ [Hc HO Hat]
  · isplitr; · iexact HI
    isplitl [Hc]; · iapply (Entails.of_eq (congrArg (fun x => (cred (tallyAt (locCell c) () x) : sProp 𝕄)) creditL_eq.symm)); iexact Hc
    isplitl [HO]; · iexact HO
    isplitr; · iapply (mayWait_start c (.dma locS) (by decide)); iexact Hlev
    iexact Hat
  iintro ⟨HO, Hat, -, Hpay⟩
  imod (Rounds.cell_close ER (Rd (F := F) m) (Set.mem_univ κ) (fun h => h) (R := 0 + 1) (duties_later m (locCell c))) $$ [Hat] with Hz
  · isplitr; · iexact HI
    iexact Hat
  ihave Hp := (Entails.of_eq (rest_loc m c)) $$ Hpay
  unfold locPay
  icases Hp with ⟨Hl, Hx⟩
  iapply Hk
  isplitl [HO]; · iexists _; iexact HO
  isplitl [Hz]; · iexact Hz
  isplitl [Hx Hxr]
  · iapply hsp.2
    isplitl [Hx] <;> iassumption
  iexact Hl

/-- A device knows its number. -/
theorem dev_core {P : sProp (MT nD τ sig Unit (Elt F) ℕ UU ℕ)} {k : Dev nD → Prog (TpuEff nD τ sig (Elt F) Λ₀ .tc) α} (h : P ⊢ WP c (k c) Q) :
    P ⊢ WP c (.op .deviceId k) Q :=
  h.trans (Entails.of_eq (wp_deviceId (defs := defs₀ (F := F)) (𝒱 := 𝒱₀) (c := (c : Thread nD τ)) (bd := none) (E := Set.univ) (Q := Q) (k := k)).symm)

/-- The words the first part computes from the device's number. -/
abbrev Words : Type := Σ' (d0 : Dev nD) (v2 : BitVec 32) (v5 : BitVec 32) (v8 : BitVec 32) (v9 : BitVec 32) (v10 : BitVec 32) (v11 : BitVec 32) (v13 : BitVec 32)
  (v16 : BitVec 32) (v19 : BitVec 32), BitVec 32

/-- The first part. -/
theorem part1 {rest : Words → Prog (TpuEff nD τ sig (Elt F) Λ₀ .tc) α}
    (h : ∀ v2 v5 v8 v9 v10 v11 v13 v16 v19 v23, Mid m c K ⊢ WP c (rest ⟨c, v2, v5, v8, v9, v10, v11, v13, v16, v19, v23⟩) Q) :
    Pre m c K ⊢ WP c (on (k0_part1 (F := F)) >>= rest) Q := by
  unfold on; rw [k0_part1_eq_skeleton]; unfold k0_part1_skel
  simp only [Prog.lift, Prog.bind_op, Prog.bind_ret, Prog.pure_eq_ret]
  refine dev_core ?_
  unfold Pre
  iintro ⟨#Hrec, ⟨%W, HO⟩, Hkeep, Hsh, Hloc, Hx, ⟨%X, Hl⟩, ⟨%Y, Hb⟩⟩
  iapply (copy_core (K (c, 1)) W X) $$ [HO Hloc Hx Hl]
  · isplitr; · iapply (recs_inv m K (c, 1) (cellAt_loc c)); iexact Hrec
    isplitr; · iapply (recs_reached m K (c, 1) (cellAt_loc c)); iexact Hrec
    isplitr; · iapply (recs_lev m K); iexact Hrec
    isplitl [HO]; · iexact HO
    isplitl [Hloc]; · iexact Hloc
    isplitl [Hx] <;> iassumption
  iintro ⟨HO, Hz, Hx, Hl⟩
  have eL : (fun j : rW.shape.Idx => Lq m c (rW.emb j)) = Lq m c := funext fun j => congrArg _ (rW_emb j)
  iapply (load_sub c lM rW fullShare (Lq m c)) $$ Hl
  iintro Hl
  iapply (load_sub c (bM 0) rW fullShare Y) $$ Hb
  iintro Hb
  rw [eL]
  iapply (store_sub c (bM 0) rW (fun _ => rfl) Y (Sv m c)) $$ Hb
  iintro Hb
  have eS : rW.overlay Y (Sv m c) = Sv m c := funext fun j => by
    have := Rect.overlay_emb rW Y (Sv m c) j
    rwa [rW_emb] at this
  ihave Hb := (Entails.of_eq (congrArg (fun Z => (owns (c : Thread nD τ) (bM 0) fullShare Z : sProp 𝕄)) eS)) $$ Hb
  iapply (h _ _ _ _ _ _ _ _ _ _)
  unfold Mid
  isplitr; · iexact Hrec
  isplitl [HO]; · iexact HO
  isplitl [Hkeep]; · iexact Hkeep
  isplitl [Hsh]; · iexact Hsh
  isplitl [Hz]; · iexact Hz
  isplitl [Hx]; · iexact Hx
  isplitl [Hl] <;> iassumption

/-! ## The second part: the handshake -/

/-- A ready signal to the neighbour in direction `d`. -/
theorem signal_core (d : Fin 3) (κ : ℕ) {t : Dev nD} (ht : t = nb d c) (O₁ O : CellTallies nD τ sig Unit) (hO : O₁ = O + tallyAt (barCell (nb d c)) () 1)
    {k : PUnit → Prog (TpuEff nD τ sig (Elt F) Λ₀ .tc) α} :
    iprop(cellInv ER (Rd (F := F) m) κ (barCell (nb d c)) ∗ (∃ W, owes (c : Thread nD τ) O₁ W) ∗ dutyTok ER (barCell (nb d c)) 0 d
        ∗ barPay (nb d c) d ∗ reached ER (barCell (nb d c)) 0)
      ⊢ iprop(((∃ W, owes (c : Thread nD τ) O W) -∗ WP c (k ⟨⟩) Q) -∗ WP c (.op (.semSignal (t : Thread nD τ) barS ((1#32 : BitVec 32).toNat)) k) Q) := by
  subst ht
  iintro ⟨#HI, ⟨%W, HO⟩, Htok, Hpay, #HR⟩ Hk
  iapply (Rounds.wp_signal 𝒱₀ ER (Rd (F := F) m) (c : Thread nD τ) none (dst := (nb d c : Thread nD τ)) (κ := κ) (r := 0)
      (d := d) (by rw [duties_bar]; exact Finset.mem_univ _) ((amount_bar m (nb d c) d).trans (by decide)) () O hO) $$ [HO Htok Hpay]
  · isplitr; · iexact HI
    isplitl [HO]; · iexact HO
    isplitl [Htok]; · iexact Htok
    isplitl [Hpay]; · rw [payload_bar]; iexact Hpay
    iexact HR
  iintro HO
  iapply Hk
  iexists W
  iexact HO

/-- What is sent along z, as the half shares of its pieces. -/
theorem sent_halves (m : (ℓ : Loc nD τ sig) → Buf (Elt F) ℓ) (c : Dev nD) :
    (owns (c : Thread nD τ) (bM 0) fullShare (Sv m c) : sProp (MT nD τ sig Unit (Elt F) ℕ UU ℕ))
      ⊢ bigSep (Finset.univ.image fun p : Fin 8 × Bool => ((0 : Fin 6), p.1, p.2)) fun p => pc m c (hs p.2.2) p.1 p.2.1 :=
  (pieces c fullShare 0 (Sv m c)).trans (@halves F _ m c 0)

/-- Over nothing there is nothing. -/
theorem empty_in {I : Type} (Φ : I → sProp (MT nD τ sig Unit (Elt F) ℕ UU ℕ)) : (iprop(emp) : sProp 𝕄) ⊢ bigSep ∅ Φ :=
  Entails.of_eq bigSep_empty.symm

/-- What is held after the handshake is what the events start from. -/
theorem st_intro (c : Dev nD) (K : Dev nD × Fin 66 → ℕ) :
    iprop(recs m K ∗ (∃ W, owes (c : Thread nD τ) (OB c Finset.univ) W) ∗ keep c K
        ∗ (bigSep Finset.univ fun i => blank (F := F) (tgt c i) (dstB i) (sub i)) ∗ owns (c : Thread nD τ) (bM 0) fullShare (Sv m c)
        ∗ owns (c : Thread nD τ) lM fullShare (Lq m c) ∗ xPts m c ∗ semVal (barCell c) 0 ∗ semVal (locCell c) 0)
      ⊢ St m c K (S 0) := by
  rw [show S 0 = S0 from rfl]
  unfold St keep fr outSt
  dsimp only [S0]
  iintro ⟨Hrec, HO, ⟨Htok, HR, HV, HB, ⟨%Z, Ho⟩⟩, Hbl, Hb, Hl, Hf⟩
  ihave HA := (sent_halves m c) $$ Hb
  isplitl [Hrec]; · iexact Hrec
  isplitl [HO]; · iexact HO
  isplitl [Htok Hbl]
  · iapply (join_T c)
    isplitl [Htok] <;> iassumption
  isplitl [HR]; · iexact HR
  isplitr; · iapply (empty_in fun i : Fin 32 => (semVal (recvCell c i) 0 : sProp (MT nD τ sig Unit (Elt F) ℕ UU ℕ))); iempintro
  isplitl [HV]; · iexact HV
  isplitr; · iapply (empty_in fun i : Fin 32 => (cred (tallyAt (sendCell c i) () N) : sProp (MT nD τ sig Unit (Elt F) ℕ UU ℕ))); iempintro
  isplitr; · iapply (empty_in fun i : Fin 32 => (semVal (sendCell c i) 0 : sProp (MT nD τ sig Unit (Elt F) ℕ UU ℕ))); iempintro
  isplitl [HA]; · iexact HA
  isplitl [HB]; · iexact HB
  isplitl [Ho]
  · iexists Z
    isplitr
    · ipureintro
      exact fun p hp => absurd hp (Finset.notMem_empty p)
    iexact Ho
  isplitl [Hl]; · iexact Hl
  iexact Hf

/-- The second part: a device tells its neighbours that it is ready, and waits until they are. -/
theorem part2 (v2 v5 v8 v9 v10 v11 : BitVec 32) {rest : PUnit → Prog (TpuEff nD τ sig (Elt F) Λ₀ .tc) α}
    (h : St m c K (S 0) ⊢ WP c (rest ⟨⟩) Q) :
    Mid m c K ⊢ WP c (on (k0_part2 (F := F)) c v2 v5 v8 v9 v10 v11 >>= rest) Q := by
  unfold on; rw [k0_part2_eq_skeleton]; unfold k0_part2_skel
  simp only [semSignalWord, semWaitWord, Prog.lift, Prog.bind_op, Prog.bind_ret, Prog.pure_eq_ret]
  unfold Mid shake
  rw [own_blanks]
  iintro ⟨#Hrec, HO, Hkeep, ⟨Hx0, Hy0, Hz0, Hat, Hcr, Hp0, Hp1, Hp2⟩, Hz, Hx, Hl, Hb⟩
  iapply (signal_core 0 (K (nx c, 0)) (Fin.ext (k0_dev1_eq c)) (O₀ c) (OB c Finset.univ + tallyAt (barCell (nz c)) () 1 + tallyAt (barCell (ny c)) () 1) rfl)
    $$ [HO Hx0 Hp0]
  · isplitr; · iapply (recs_inv m K (nx c, 0) (cellAt_bar (nx c))); iexact Hrec
    isplitl [HO]; · iexact HO
    isplitl [Hx0]; · iexact Hx0
    isplitl [Hp0]; · iexact Hp0
    iapply (recs_reached m K (nx c, 0) (cellAt_bar (nx c))); iexact Hrec
  iintro HO
  iapply (signal_core 1 (K (ny c, 0)) (Fin.ext (k0_dev2_eq c)) _ (OB c Finset.univ + tallyAt (barCell (nz c)) () 1) rfl)
    $$ [HO Hy0 Hp1]
  · isplitr; · iapply (recs_inv m K (ny c, 0) (cellAt_bar (ny c))); iexact Hrec
    isplitl [HO]; · iexact HO
    isplitl [Hy0]; · iexact Hy0
    isplitl [Hp1]; · iexact Hp1
    iapply (recs_reached m K (ny c, 0) (cellAt_bar (ny c))); iexact Hrec
  iintro HO
  iapply (signal_core 2 (K (nz c, 0)) (Fin.ext (k0_dev3_eq c)) _ (OB c Finset.univ) rfl)
    $$ [HO Hz0 Hp2]
  · isplitr; · iapply (recs_inv m K (nz c, 0) (cellAt_bar (nz c))); iexact Hrec
    isplitl [HO]; · iexact HO
    isplitl [Hz0]; · iexact Hz0
    isplitl [Hp2]; · iexact Hp2
    iapply (recs_reached m K (nz c, 0) (cellAt_bar (nz c))); iexact Hrec
  iintro ⟨%W, HO⟩
  iapply (Rounds.wp_wait_rest_token 𝒱₀ ER (Rd (F := F) m) (c : Thread nD τ) none (κ := K (c, 0))
      (wpE_semWait_eq 𝒱₀ (c : Thread nD τ) none Set.univ) (Set.mem_univ _) () (O := OB c Finset.univ) (W := W) (R := 0) (m := 0) (T := ∅)
      (by rw [expect_bar]; decide)) $$ [Hcr HO Hat]
  · isplitr; · iapply (recs_inv m K (c, 0) (cellAt_bar c)); iexact Hrec
    isplitl [Hcr]; · iexact Hcr
    isplitl [HO]; · iexact HO
    isplitr; · iapply (mayWait c (.reg barS) Finset.univ fun i _ => lt_of_lt_of_le (by decide) (rk_two i)); iapply (recs_lev m K); iexact Hrec
    iexact Hat
  iintro ⟨HO, Hat, -, Hpay⟩
  imod (Rounds.cell_close ER (Rd (F := F) m) (Set.mem_univ (K (c, 0))) (fun h => h) (R := 0 + 1) (duties_later m (barCell c))) $$ [Hat] with Hzb
  · isplitr; · iapply (recs_inv m K (c, 0) (cellAt_bar c)); iexact Hrec
    iexact Hat
  ihave Hbl := (Entails.of_eq ((rest_bar m c).trans (tgt_blanks c))) $$ Hpay
  iapply h
  iapply (st_intro (m := m) c K)
  isplitr; · iexact Hrec
  isplitl [HO]; · iexists _; iexact HO
  isplitl [Hkeep]; · iexact Hkeep
  isplitl [Hbl]; · iexact Hbl
  isplitl [Hb]; · iexact Hb
  isplitl [Hl]; · iexact Hl
  isplitl [Hx]; · iexact Hx
  isplitl [Hzb] <;> iassumption

/-- The whole program, from what a device starts with to what it ends with. -/
theorem body_run {Q : PUnit → sProp (MT nD τ sig Unit (Elt F) ℕ UU ℕ)} (h : St m c K (S 153) ⊢ WP c (Prog.ret ⟨⟩) Q) :
    Pre m c K ⊢ WP c (on (cc0_body (F := F))) Q := by
  rw [body_split]
  apply part1
  intros
  apply part2
  exact later_run _ _ _ _ _ _ _ _ _ _ h

end Cert.Cube

end
-- ==== Proof.End.lean ====
/-
The end of the program: the result whole, the buffers whole, the semaphores at zero.
-/
module

public import proofs.«01_k».proof.Proof.Start

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA Auth

variable {F : FTy → Type} [FloatOps F]

local notation "𝕄" => MT nD τ sig Unit (Elt F) ℕ UU ℕ

variable (m : (ℓ : Loc nD τ sig) → Buf (Elt F) ℓ) (c : Dev nD) (K : Dev nD × Fin 66 → ℕ)

/-! ## The result -/

/-- The device, of those with `c`'s place along z, that works on quarter `q`. -/
def devAt (c : Dev nD) (q : ℕ) (hq : q < 4) : Dev nD := ⟨2 * q + c.val % 2, by show _ < 8; omega⟩

/-- A place of the result, within its quarter. -/
def inQ (i : S4096x1024.Idx) : S1024x1024.Idx :=
  fun a => ⟨(![(i 0).val % 1024, (i 1).val] : Fin 2 → ℕ) a, by
    have h1 : (i 1).val < 1024 := (i 1).isLt
    match a with
    | 0 => show (i 0).val % 1024 < 1024; omega
    | 1 => show (i 1).val < 1024; omega⟩

/-- There are four quarters. -/
theorem quarter_lt (i : S4096x1024.Idx) : (i 0).val / 1024 < 4 := by
  have h0 : (i 0).val < 4096 := (i 0).isLt
  omega

/-- The result: every quarter's sum, as computed by the device that works on it. -/
def Out : S4096x1024.Idx → Elt F .bf16 := fun i => Rv m (devAt c ((i 0).val / 1024) (quarter_lt i)) (inQ i)

/-- The device whose sum fills part `k`. -/
def devOf (c : Dev nD) : Fin 4 → Dev nD
  | 0 => c
  | 1 => nx c
  | 2 => ny c
  | 3 => nx (ny c)

/-- What the buffer of part `k` comes to hold. -/
theorem val_qb (k : Fin 4) : val m c (qb k) = Rv m (devOf c k) := by
  match k with
  | 0 => rfl
  | 1 => rfl
  | 2 => rfl
  | 3 => rfl

/-- The device that works on part `k`'s quarter is the one whose sum fills it. -/
theorem devAt_qn : ∀ (c : Dev nD) (k : Fin 4), devAt c (qn c k) (qn_lt c k) = devOf c k := by decide
/-- Every quarter is some part's. -/
theorem qn_surj : ∀ (c : Dev nD) (q : Fin 4), ∃ k, qn c k = q.val := by decide

/-- A result with every piece at its value is the result. -/
theorem good_all {Z : S4096x1024.Idx → Elt F .bf16} (h : good m c Finset.univ Z) : Z = Out m c := by
  funext i
  have h0 : (i 0).val < 4096 := (i 0).isLt
  have h1 : (i 1).val < 1024 := (i 1).isLt
  obtain ⟨k, hk⟩ := qn_surj c ⟨(i 0).val / 1024, quarter_lt i⟩
  have hk : qn c k = (i 0).val / 1024 := hk
  let s : Fin 8 := ⟨(i 0).val % 1024 / 128, by omega⟩
  let j : S128x1024.Idx := fun a => ⟨(![(i 0).val % 128, (i 1).val] : Fin 2 → ℕ) a, by
    match a with
    | 0 => show (i 0).val % 128 < 128; omega
    | 1 => show (i 1).val < 1024; omega⟩
  have hj : (rc s).emb j = inQ i := funext fun a => Fin.ext (by
    match a with
    | 0 => show 128 * ((i 0).val % 1024 / 128) + 1 * ((i 0).val % 128) = (i 0).val % 1024; omega
    | 1 => show 0 + 1 * (i 1).val = (i 1).val; omega)
  have hb : big (qn c k) (qn_lt c k) ((rc s).emb j) = i := funext fun a => Fin.ext (by
    rw [hj]
    match a with
    | 0 => show 1024 * qn c k + (i 0).val % 1024 = (i 0).val; omega
    | 1 => show 0 + (i 1).val = (i 1).val; omega)
  have hd : devAt c ((i 0).val / 1024) (quarter_lt i) = devOf c k := by
    rw [← devAt_qn c k]; congr 1; exact hk.symm
  have hg := h (k, s) (Finset.mem_univ _) j
  rw [hb, hj, val_qb] at hg
  unfold Out
  rw [hd]
  exact hg

/-! ## The end -/

/-- All the half shares of pieces are the buffers whole. -/
theorem all_whole : (bigSep Finset.univ fun p : Fin 6 × Fin 8 × Bool => pc m c (hs p.2.2) p.1 p.2.1)
    ⊢ bigSep Finset.univ fun b : Fin 6 => owns (c : Thread nD τ) (bM b) fullShare (val m c b) := by
  rw [bigSep_univ_prod]
  refine bigSep_mono fun b _ => ?_
  rw [bigSep_univ_prod]
  refine (bigSep_mono (Ψ := fun s : Fin 8 => pc m c fullShare b s) fun s _ => ?_).trans (unpieces c fullShare b (val m c b))
  rw [bigSep_univ_eq_bigSepL [false, true] (by decide) (by decide)]
  exact pc_whole m c b s

/-- What a device ends with: nothing owed, every semaphore at zero, its argument, the result, its buffers. -/
def Post : sProp 𝕄 :=
  iprop((∃ W, owes (c : Thread nD τ) 0 W)
    ∗ (bigSep Finset.univ fun i : Fin 32 => semVal (recvCell c i) 0) ∗ (bigSep Finset.univ fun i : Fin 32 => semVal (sendCell c i) 0)
    ∗ (bigSep Finset.univ fun b : Fin 6 => owns (c : Thread nD τ) (bM b) fullShare (val m c b))
    ∗ owns (c : Thread nD τ) oM fullShare (Out m c) ∗ owns (c : Thread nD τ) lM fullShare (Lq m c) ∗ fr m c)

/-- After the last event everything is whole. -/
theorem end_post : St m c K (S 153) ⊢ Post m c := by
  obtain ⟨hT, hR, hRz, hV, hC, hVz, hA, hB, hO⟩ := S_end
  unfold St outSt Post
  rw [hT, hR, hRz, hV, hC, hVz, hA, hB, hO]
  iintro ⟨-, ⟨%W, HO⟩, -, -, HRz, -, -, HVz, HA, -, ⟨%Z, %hZ, Ho⟩, Hl, Hf⟩
  have hZ' := good_all m c hZ
  subst hZ'
  isplitl [HO]
  · iexists W; iexact HO
  isplitl [HRz]; · iexact HRz
  isplitl [HVz]; · iexact HVz
  isplitl [HA]; · iapply (all_whole m c); iexact HA
  isplitl [Ho]; · iexact Ho
  isplitl [Hl] <;> iassumption

/-- The whole program, from `Pre` to `Post`. -/
theorem body_post : Pre m c K ⊢ WP c (on (cc0_body (F := F))) (fun _ => Post m c) := by
  refine body_run (m := m) (K := K) ((end_post m c K).trans ?_)
  unfold WP
  rw [wp_ret]
  iintro H
  imodintro
  iexact H

/-! ## Buffers at unknown contents -/

/-- A buffer at unknown contents is its memref owned at unknown contents. -/
theorem own_any (b : Ref sig .tc) :
    iprop(∃ f : Buf (Elt F) ((c : Thread nD τ).loc b), ((c : Thread nD τ).loc b) ↦{fullShare} f)
      ⊢ (iprop(∃ X, owns (c : Thread nD τ) (Memref.whole b) fullShare X) : sProp 𝕄) := by
  iintro ⟨%f, H⟩
  iexists f
  unfold owns; simp only [Memref.view_whole, View.read_whole, View.set_whole]
  iexists f
  isplitr; · ipureintro; rfl
  iexact H

/-- A buffer held whole is held at some contents. -/
theorem any_own (b : Ref sig .tc) (X : b.ty.Contents (Elt F)) :
    (owns (c : Thread nD τ) (Memref.whole b) fullShare X : sProp 𝕄)
      ⊢ iprop(∃ f : Buf (Elt F) ((c : Thread nD τ).loc b), ((c : Thread nD τ).loc b) ↦{fullShare} f) := by
  unfold owns; simp only [Memref.view_whole, View.read_whole, View.set_whole]
  iintro ⟨%f, -, H⟩
  iexists f
  iexact H

/-- A buffer at unknown contents is its pieces at unknown contents. -/
theorem to_blanks (b : Fin 6) :
    iprop(∃ X, owns (c : Thread nD τ) (bM b) fullShare X) ⊢ (bigSep Finset.univ fun s : Fin 8 => blank c b s : sProp 𝕄) := by
  iintro ⟨%X, H⟩
  ihave H' := (pieces c fullShare b X) $$ H
  have h : (bigSep Finset.univ fun s : Fin 8 => (owns (c : Thread nD τ) (pM b s) fullShare (fun j => X ((rc s).emb j)) : sProp 𝕄))
      ⊢ bigSep Finset.univ fun s : Fin 8 => blank c b s := bigSep_mono fun s _ =>
    show (owns (c : Thread nD τ) (pM b s) fullShare (fun j => X ((rc s).emb j)) : sProp 𝕄) ⊢ iprop(∃ Y, owns (c : Thread nD τ) (pM b s) fullShare Y) from by
      iintro H
      iexists (fun j => X ((rc s).emb j))
      iexact H
  iapply h
  iexact H'

/-- A slot from its phase and its piece. -/
def slotE : Fin 4 × Fin 8 ≃ Fin 32 :=
  ⟨fun p => ⟨8 * p.1.val + p.2.val, by have := p.1.isLt; have := p.2.isLt; omega⟩, fun i => (ph i, sub i), by decide, by decide⟩

/-- The pieces to receive into are those of four buffers. -/
theorem slot_blanks :
    iprop((bigSep Finset.univ fun s : Fin 8 => blank c 1 s) ∗ (bigSep Finset.univ fun s : Fin 8 => blank c 3 s)
      ∗ (bigSep Finset.univ fun s : Fin 8 => blank c 4 s) ∗ (bigSep Finset.univ fun s : Fin 8 => blank c 5 s))
      = (bigSep Finset.univ fun i => blank (F := F) c (dstB i) (sub i)) := by
  have h (k : Fin 4) (b : Fin 6) (hb : ∀ s, dstB (slotE (k, s)) = b) (hs : ∀ s, sub (slotE (k, s)) = s) :
      (bigSep Finset.univ fun s : Fin 8 => blank (F := F) c (dstB (slotE (k, s))) (sub (slotE (k, s)))) = bigSep Finset.univ fun s : Fin 8 => blank c b s :=
    bigSep_congr fun s _ => by rw [hb, hs]
  rw [bigSep_univ_equiv slotE (fun i => blank (F := F) c (dstB i) (sub i)), bigSep_univ_prod (α := Fin 4),
    bigSep_univ_eq_bigSepL ([0, 1, 2, 3] : List (Fin 4)) (by decide) (by decide)]
  rw [← h 0 1 (by decide) (by decide), ← h 1 3 (by decide) (by decide), ← h 2 4 (by decide) (by decide), ← h 3 5 (by decide) (by decide)]
  rfl

end Cert.Cube

end
-- ==== Proof.Body.lean ====
/-
The program as the launch runs it: from the buffers and tokens the launch gives to the result.
-/
module

public import proofs.«01_k».proof.Proof.End

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA Auth

variable {F : FTy → Type} [FloatOps F]

local notation "𝕄" => MT nD τ sig Unit (Elt F) ℕ UU ℕ

variable (m : (ℓ : Loc nD τ sig) → Buf (Elt F) ℓ) (c : Dev nD) (K : Dev nD × Fin 66 → ℕ)

/-- What a device holds alone: its positions and the tokens of the duties it pays. -/
def lin (c : Dev nD) : sProp 𝕄 :=
  iprop((atPos ER (barCell c) 0 ∅ 0 ∗ atPos ER (locCell c) 0 ∅ 0
      ∗ (bigSep Finset.univ fun i => atPos ER (sendCell c i) 0 ∅ 0) ∗ (bigSep Finset.univ fun i => atPos ER (recvCell c i) 0 ∅ 0))
    ∗ (dutyTok ER (barCell (nx c)) 0 0 ∗ dutyTok ER (barCell (ny c)) 0 1 ∗ dutyTok ER (barCell (nz c)) 0 2)
    ∗ dutyTok ER (locCell c) 0 0 ∗ (bigSep Finset.univ fun i => dutyTok ER (sendCell c i) 0 0)
    ∗ (bigSep Finset.univ fun i => dutyTok ER (recvCell (tgt c i) i) 0 0))

/-- The records of all cells but the levels. -/
def recs' (K : Dev nD × Fin 66 → ℕ) : sProp 𝕄 :=
  iprop((bigSep Finset.univ fun p : Dev nD × Fin 66 => cellInv ER (Rd (F := F) m) (K p) (cellAt p))
    ∗ (bigSep Finset.univ fun p : Dev nD × Fin 66 => reached ER (cellAt p) 0))

instance recs'_persistent (K : Dev nD × Fin 66 → ℕ) : BI.Persistent (recs' m K) := by unfold recs'; infer_instance

/-- The ghost side of a device's start. -/
def ghost : sProp 𝕄 := iprop(∃ K, recs' m K ∗ lin c)

/-- What a device starts with, its buffers aside. -/
def start : sProp 𝕄 :=
  iprop(ghost m c ∗ cred (tallyAt (barCell c) () 3) ∗ (bigSep Finset.univ fun i => cred (tallyAt (recvCell c i) () N)) ∗ levAts L lv ∗ xPts m c)

/-- A device's scratch buffer at unknown contents. -/
abbrev some_ (b : Ref sig .tc) : sProp 𝕄 := iprop(∃ f : Buf (Elt F) ((c : Thread nD τ).loc b), ((c : Thread nD τ).loc b) ↦{fullShare} f)

/-- The scratch buffers. -/
def scr (c : Dev nD) : sProp 𝕄 :=
  iprop(some_ c cc0_scratch0 ∗ some_ c cc0_scratch1 ∗ some_ c cc0_scratch2 ∗ some_ c cc0_scratch3 ∗ some_ c cc0_scratch4 ∗ some_ c cc0_scratch5
    ∗ some_ c cc0_scratch6)

/-- Before the program, -/
def Φ₀ : sProp 𝕄 := iprop(start m c ∗ scr c)
/-- and after it. -/
def Φ₁ : sProp 𝕄 :=
  iprop(fr m c ∗ (bigSep Finset.univ fun i : Fin 32 => semVal (sendCell c i) 0) ∗ (bigSep Finset.univ fun i : Fin 32 => semVal (recvCell c i) 0) ∗ scr c)

/-- The data of the launch: the result's array comes to hold the result. -/
def dats (_ : Fin 1) (c : Dev nD) : Dat τ (Elt F) Unit ℕ UU ℕ cfg0 c where
  A w := m ((cfg0.win w).arr.view.loc (c : Thread nD τ))
  after w _ := match w with
    | ⟨0, _⟩ => Out m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A buffer owned whole. -/
theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- From what the launch gives to what the program starts from. -/
theorem pre_intro (W : Waits sig Unit) :
    iprop(recs' m K ∗ lin c ∗ cred (tallyAt (barCell c) () 3) ∗ (bigSep Finset.univ fun i => cred (tallyAt (recvCell c i) () N)) ∗ levAts L lv
        ∗ xPts m c ∗ scr c ∗ owes (c : Thread nD τ) (O₀ c) W ∗ (∃ Z, owns (c : Thread nD τ) oM fullShare Z)) ⊢ Pre m c K := by
  unfold recs' lin scr Pre recs keep shake
  iintro ⟨⟨#Hi, #Hr⟩, ⟨⟨HaB, HaL, HaS, HaR⟩, ⟨HtX, HtY, HtZ⟩, HtL, HtS, HtR⟩, HcB, HcR, #Hlev, Hx, ⟨H0, H1, H2, H3, H4, H5, H6⟩, HO, Ho⟩
  ihave H0 := (own_any c cc0_scratch0) $$ H0
  ihave H1 := (own_any c cc0_scratch1) $$ H1
  ihave H2 := ((own_any c cc0_scratch2).trans (to_blanks c 1)) $$ H2
  ihave H3 := ((own_any c cc0_scratch3).trans (to_blanks c 2)) $$ H3
  ihave H4 := ((own_any c cc0_scratch4).trans (to_blanks c 3)) $$ H4
  ihave H5 := ((own_any c cc0_scratch5).trans (to_blanks c 4)) $$ H5
  ihave H6 := ((own_any c cc0_scratch6).trans (to_blanks c 5)) $$ H6
  isplitr
  · isplitr; · iexact Hi
    isplitr; · iexact Hr
    iexact Hlev
  isplitl [HO]; · iexists W; iexact HO
  isplitl [HtS HtR HaR HcR HaS H3 Ho]
  · isplitl [HtS HtR]
    · rw [bigSep_sep']
      isplitl [HtS] <;> iassumption
    isplitl [HaR HcR]
    · rw [bigSep_sep']
      isplitl [HaR] <;> iassumption
    isplitl [HaS]; · iexact HaS
    isplitl [H3]; · iexact H3
    iexact Ho
  isplitl [HtX HtY HtZ HaB HcB H2 H4 H5 H6]
  · isplitl [HtX]; · iexact HtX
    isplitl [HtY]; · iexact HtY
    isplitl [HtZ]; · iexact HtZ
    isplitl [HaB]; · iexact HaB
    isplitl [HcB]; · iexact HcB
    iapply (Entails.of_eq (slot_blanks c))
    isplitl [H2]; · iexact H2
    isplitl [H4]; · iexact H4
    isplitl [H5] <;> iassumption
  isplitl [HtL HaL]
  · isplitl [HtL] <;> iassumption
  isplitl [Hx]; · iexact Hx
  isplitl [H0]; · iexact H0
  iexact H1

/-- Six buffers, one after the other. -/
theorem six (Ψ : Fin 6 → sProp 𝕄) : bigSep Finset.univ Ψ = iprop(Ψ 0 ∗ Ψ 1 ∗ Ψ 2 ∗ Ψ 3 ∗ Ψ 4 ∗ Ψ 5) :=
  bigSep_univ_eq_bigSepL ([0, 1, 2, 3, 4, 5] : List (Fin 6)) (by decide) (by decide) Ψ

/-- The six buffers whole are the scratch buffers they lie in. -/
theorem scr_intro :
    iprop(owns (c : Thread nD τ) lM fullShare (Lq m c) ∗ bigSep Finset.univ fun b : Fin 6 => owns (c : Thread nD τ) (bM b) fullShare (val m c b)) ⊢ scr c := by
  rw [six]
  unfold scr
  iintro ⟨H, H0, H1, H2, H3, H4, H5⟩
  isplitl [H]; · iapply (any_own c cc0_scratch0 (Lq m c)); iexact H
  isplitl [H0]; · iapply (any_own c cc0_scratch1 (val m c 0)); iexact H0
  isplitl [H1]; · iapply (any_own c cc0_scratch2 (val m c 1)); iexact H1
  isplitl [H2]; · iapply (any_own c cc0_scratch3 (val m c 2)); iexact H2
  isplitl [H3]; · iapply (any_own c cc0_scratch4 (val m c 3)); iexact H3
  isplitl [H4]; · iapply (any_own c cc0_scratch5 (val m c 4)); iexact H4
  iapply (any_own c cc0_scratch6 (val m c 5)); iexact H5

/-- The result's buffer before the program, at some contents. -/
def bodyPre : sProp 𝕄 :=
  iprop(Φ₀ m c ∗ (dats m 0 c).owesAt () t0_0.castSucc ∗ (∃ Z, owns (c : Thread nD τ) oM fullShare Z))
/-- Everything after the program. -/
def bodyPost : sProp 𝕄 := iprop(Φ₁ m c ∗ (dats m 0 c).owesAt () t0_0.succ ∗ owns (c : Thread nD τ) oM fullShare (Out m c))

/-- The end state is what the launch takes back. -/
theorem post_exit : Post m c ⊢ bodyPost m c := by
  unfold Post bodyPost Φ₁ Dat.owesAt Pipeline.owesWithin
  rw [show (dats m 0 c).owed t0_0.succ = 0 from rfl]
  iintro ⟨⟨%W, HO⟩, HR, HS, HB, Ho, Hl, Hf⟩
  isplitl [HR HS HB Hl Hf]
  · isplitl [Hf]; · iexact Hf
    isplitl [HS]; · iexact HS
    isplitl [HR]; · iexact HR
    iapply (scr_intro m c)
    isplitl [Hl] <;> iassumption
  isplitl [HO]
  · iexists W
    isplitr; · ipureintro; exact fun _ _ => Or.inl trivial
    iexact HO
  iexact Ho

/-- The whole program, from what the launch hands over to what it takes back. -/
theorem body_sound : bodyPre m c ⊢ WP c (on (cc0_body (F := F))) (fun _ => bodyPost m c) := by
  unfold bodyPre Φ₀ start ghost Dat.owesAt Pipeline.owesWithin
  rw [show (dats m 0 c).owed t0_0.castSucc = O₀ c from rfl]
  iintro ⟨⟨⟨⟨%K, Hr, Hl⟩, HB, HR, Hlev, Hx⟩, Hs⟩, ⟨%W, -, HO⟩, ⟨%d, Ho⟩⟩
  iapply ((body_post m c K).trans (wp_mono _ _ _ fun _ => post_exit m c))
  iapply (pre_intro m c K W)
  isplitl [Hr]; · iexact Hr
  isplitl [Hl]; · iexact Hl
  isplitl [HB]; · iexact HB
  isplitl [HR]; · iexact HR
  isplitl [Hlev]; · iexact Hlev
  isplitl [Hx]; · iexact Hx
  isplitl [Hs]; · iexact Hs
  isplitl [HO]; · iexact HO
  iexists _; iexact Ho

/-- The state before the one point. -/
theorem phi_first : (dats m 0 c).Φ t0_0.castSucc = Φ₀ m c := rfl
/-- The state after it. -/
theorem phi_last : (dats m 0 c).Φ t0_0.succ = Φ₁ m c := rfl
/-- What the one point leaves in the result's window. -/
theorem after_out : (dats m 0 c).after (0 : Fin 1) t0_0 = Out m c := rfl
/-- The table's program is the kernel at its buffers. -/
theorem prog_eq : defs₀ (F := F) Proc.tc 0 (t0_0, cfg0.slots t0_0) = on (cc0_body (F := F)) := by
  with_unfolding_all rfl

/-- The launch's obligation about the program, on every device. -/
theorem body_obligation (c : Dev nD) : BodyObligation (dats (F := F) m 0 c) (defs₀ (F := F)) 𝒱₀ () Set.univ := fun t => by
  rw [fin_N0 t]
  rw [bigSep_W0, bigSep_W0]
  have h := body_sound m c
  rw [← prog_eq] at h
  simp only [owns_whole_eq]
  unfold bodyPre bodyPost at h
  rw [phi_last, after_out, phi_first]
  unfold WP at h
  iintro ⟨H1, H2, ⟨%d, %f, %hf, H⟩⟩
  iapply (h.trans (wp_mono _ _ _ fun _ => sep_mono_right (sep_mono_right (Entails.of_eq (owns_whole_eq c cc0_stg0_0 (Out m c))))))
  isplitl [H1]; · iexact H1
  isplitl [H2]; · iexact H2
  iapply (own_any c cc0_stg0_0)
  iexists f
  iexact H

end Cert.Cube

end
-- ==== Proof.Launch.lean ====
/-
The launch: every device gets its tokens, positions and credits, and runs the program to its end.
-/
module

public import proofs.«01_k».proof.Proof.Body
public import Idealize.ShloMosaic.Lib.Pipeline.CollectiveSegs

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA Auth

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, grouped -/

/-- A DMA semaphore of the program's own. -/
abbrev osem : Fin 65 → SemLoc sig := fun k => .dma (k.succ : Fin 66)

/-- The program's semaphores are apart from the window's. -/
theorem ownSemFacts : Pipeline.OwnSemFacts cfg0.spec osem := by decide

/-- Send semaphores are told apart by number. -/
theorem kS_inj : Function.Injective kS := fun i j h => Fin.ext (by have := congrArg Fin.val h; simp only [kS] at this; omega)
/-- Receive semaphores are told apart by number. -/
theorem kR_inj : Function.Injective kR := fun i j h => Fin.ext (by have := congrArg Fin.val h; simp only [kR] at this; omega)

/-- A device's cells: its barrier's, -/
theorem cells_first (Ψ : Fin 66 → sProp 𝕄) : bigSep Finset.univ Ψ = iprop(Ψ 0 ∗ bigSep Finset.univ fun k : Fin 65 => Ψ k.succ) := by
  rw [show (Finset.univ : Finset (Fin 66)) = {0} ∪ Finset.univ.map ⟨Fin.succ, Fin.succ_injective 65⟩ by decide,
    bigSep_union (by decide), bigSep_singleton, bigSep_map]
  rfl

/-- and of the others the local copy's, the slots' at their sender, the slots' at their receiver. -/
theorem cells_split (Ψ : Fin 66 → sProp 𝕄) : (bigSep Finset.univ fun k : Fin 65 => Ψ k.succ)
    = iprop(Ψ 1 ∗ (bigSep Finset.univ fun i : Fin 32 => Ψ (kS i)) ∗ (bigSep Finset.univ fun i : Fin 32 => Ψ (kR i))) := by
  rw [show (bigSep Finset.univ fun k : Fin 65 => Ψ k.succ) = bigSep (Finset.univ.map ⟨Fin.succ, Fin.succ_injective 65⟩) Ψ from
      (bigSep_map (s := Finset.univ) (Φ := Ψ) ⟨Fin.succ, Fin.succ_injective 65⟩).symm,
    show (Finset.univ.map ⟨Fin.succ, Fin.succ_injective 65⟩ : Finset (Fin 66)) = {1} ∪ (Finset.univ.map ⟨kS, kS_inj⟩ ∪ Finset.univ.map ⟨kR, kR_inj⟩) by decide,
    bigSep_union (by decide), bigSep_singleton, bigSep_union (by decide), bigSep_map, bigSep_map]
  rfl

/-- A family over all cells of a device, by their names. -/
theorem cells_named (c : Dev nD) (Ψ : GSem nD τ sig → sProp 𝕄) : (bigSep Finset.univ fun k : Fin 65 => Ψ (cellAt (c, k.succ)))
    = iprop(Ψ (locCell c) ∗ (bigSep Finset.univ fun i => Ψ (sendCell c i)) ∗ (bigSep Finset.univ fun i => Ψ (recvCell c i))) := by
  rw [cells_split (fun k => Ψ (cellAt (c, k))), bigSep_congr (fun i _ => congrArg Ψ (cellAt_send c i)), bigSep_congr (fun i _ => congrArg Ψ (cellAt_recv c i))]
  rfl

theorem csem_succ (k : Fin 65) : csem k.succ = osem k := if_neg (Nat.succ_ne_zero _)

theorem three (Ψ : Fin 3 → sProp 𝕄) : bigSep Finset.univ Ψ = iprop(Ψ 0 ∗ Ψ 1 ∗ Ψ 2) :=
  bigSep_univ_eq_bigSepL ([0, 1, 2] : List (Fin 3)) (by decide) (by decide) Ψ

/-- A device's semaphores are distinct. -/
theorem csem_inj : Function.Injective csem := by decide

/-- All the mesh's semaphores are distinct. -/
theorem cellAt_inj : Function.Injective cellAt := by
  rintro ⟨c, k⟩ ⟨c', k'⟩ h
  have h1 : c = c' := congrArg (fun g : GSem nD τ sig => g.1.1) h
  have h2 : k = k' := csem_inj (congrArg Prod.snd h)
  rw [h1, h2]

/-! ## The ghost state of the launch -/

/-- All the cells. -/
def allCells : Finset (GSem nD τ sig) := Finset.univ.map ⟨cellAt, cellAt_inj⟩

/-- The barriers' tokens, -/
def tokB (p : Dev nD × Fin 3) : GSem nD τ sig × ℕ × Fin 3 := (barCell p.1, 0, p.2)
/-- and the other cells'. -/
def tokC (p : Dev nD × Fin 65) : GSem nD τ sig × ℕ × Fin 3 := (cellAt (p.1, p.2.succ), 0, 0)
/-- The barriers' duties are distinct. -/
theorem tokB_inj : Function.Injective tokB := by
  rintro ⟨c, d⟩ ⟨c', d'⟩ h
  have h1 : c = c' := congrArg (fun x : GSem nD τ sig × ℕ × Fin 3 => x.1.1.1) h
  have h2 : d = d' := congrArg (fun x : GSem nD τ sig × ℕ × Fin 3 => x.2.2) h
  rw [h1, h2]
/-- The copies' duties are distinct. -/
theorem tokC_inj : Function.Injective tokC := by
  rintro ⟨c, k⟩ ⟨c', k'⟩ h
  have h1 := cellAt_inj (congrArg Prod.fst h)
  have h2 : c = c' := congrArg Prod.fst h1
  have h3 : k = k' := Fin.succ_injective _ (congrArg Prod.snd h1)
  rw [h2, h3]
/-- A barrier's duty is no copy's. -/
theorem tok_disj : Disjoint (Finset.univ.map ⟨tokB, tokB_inj⟩) (Finset.univ.map ⟨tokC, tokC_inj⟩) := by
  rw [Finset.disjoint_left]
  intro x hx hy
  rw [Finset.mem_map] at hx hy
  obtain ⟨⟨c, d⟩, -, rfl⟩ := hx
  obtain ⟨⟨c', k⟩, -, h⟩ := hy
  have h' : csem k.succ = csem 0 := congrArg (fun x : GSem nD τ sig × ℕ × Fin 3 => x.1.2) h
  exact absurd (csem_inj h') (Fin.succ_ne_zero k)
/-- All the tokens. -/
def allToks : Finset (GSem nD τ sig × ℕ × Fin 3) := Finset.univ.map ⟨tokB, tokB_inj⟩ ∪ Finset.univ.map ⟨tokC, tokC_inj⟩

/-- The launch's ghost element. -/
def u₀ : UU := (initOf (Pipeline.cells cfgs cellOf_inj) (Pipeline.launchToks cfgs cellOf_inj), initOf allCells allToks)

/-- The tokens of a device's own cells. -/
def toks (c : Dev nD) : sProp 𝕄 :=
  iprop((bigSep Finset.univ fun d : Fin 3 => dutyTok ER (barCell c) 0 d) ∗ bigSep Finset.univ fun k : Fin 65 => dutyTok ER (cellAt (c, k.succ)) 0 0)

/-- What the ghost element gives a device. -/
def G (c : Dev nD) : sProp 𝕄 :=
  iprop((bigSep Finset.univ fun k : Fin 66 => roundState ER (Rd (F := F) m) (cellAt (c, k)) 0)
    ∗ ((bigSep Finset.univ fun k : Fin 66 => atPos ER (cellAt (c, k)) 0 ∅ 0) ∗ (bigSep Finset.univ fun k : Fin 66 => reached ER (cellAt (c, k)) 0)) ∗ toks c)

/-- Over all semaphores is over all devices and numbers. -/
theorem over_cells (Ψ : GSem nD τ sig → sProp 𝕄) : bigSep allCells Ψ = bigSep Finset.univ fun c : Dev nD => bigSep Finset.univ fun k : Fin 66 => Ψ (cellAt (c, k)) := by
  unfold allCells; rw [bigSep_map, bigSep_univ_prod]; rfl

/-- All the duties' tokens, device by device. -/
theorem over_toks : bigSep allToks (fun x => (dutyTok ER x.1 x.2.1 x.2.2 : sProp 𝕄)) = bigSep Finset.univ fun c : Dev nD => toks c := by
  unfold allToks toks
  rw [bigSep_union tok_disj, bigSep_map, bigSep_map, bigSep_univ_prod, bigSep_univ_prod, bigSep_sep']
  rfl

/-- The ghost element gives every device its share. -/
theorem fund_all : BI.own (ER (initOf allCells allToks)) ⊢ (|==> bigSep Finset.univ (G m) : sProp 𝕄) := by
  iintro HX
  imod (Rounds.fund ER (Rd (F := F) m) allCells allToks) $$ HX with ⟨Hst, Hr, Hat, Htok⟩
  imodintro
  ihave Hst' := (Entails.of_eq (over_cells fun g => roundState ER (Rd (F := F) m) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat' Hr']
  · isplitl [Hat'] <;> iassumption
  iexact Htok'

/-! ## The semaphores at zero -/

/-- The barrier is the launch's one semaphore that is not the program's own. -/
theorem unscoped_eq (c : Dev nD) : (unscopedSems0 c : sProp 𝕄) = semVal (barCell c) 0 := by
  unfold unscopedSems0; rw [bigSep_eq_bigSepL_of_eq [SemLoc.reg barS] (by decide) (by decide)]; rfl

/-- The program's own semaphores, by number. -/
theorem own_eq (c : Dev nD) : (Pipeline.ownSems0 (Ix := Unit) (Name := ℕ) (U := UU) (Lvl := ℕ) (Val := Elt F) (τ := τ) osem c : sProp 𝕄)
    = bigSep Finset.univ fun k : Fin 65 => semVal (cellAt (c, k.succ)) 0 := by
  unfold Pipeline.ownSems0
  exact bigSep_congr fun k _ => by unfold cellAt; rw [csem_succ]

/-- All a device's semaphores start at zero. -/
theorem sems_zero (c : Dev nD) :
    iprop(Pipeline.ownSems0 (Ix := Unit) (Name := ℕ) (U := UU) (Lvl := ℕ) (Val := Elt F) (τ := τ) osem c ∗ unscopedSems0 c)
      ⊢ (bigSep Finset.univ fun k : Fin 66 => semVal (cellAt (c, k)) 0 : sProp 𝕄) := by
  rw [own_eq, unscoped_eq, cells_first]
  iintro ⟨HO, HB⟩
  isplitl [HB]; · iexact HB
  iexact HO

/-- A device's invariants are set up from its semaphores at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 66 => iprop(∃ κ : ℕ, cellInv ER (Rd (F := F) m) κ (cellAt (c, k))))
          ∗ ((bigSep Finset.univ fun k : Fin 66 => atPos ER (cellAt (c, k)) 0 ∅ 0) ∗ (bigSep Finset.univ fun k : Fin 66 => reached ER (cellAt (c, k)) 0)) ∗ toks c) := by
  unfold G
  iintro ⟨Hos, Hus, Hst, Hat, Htok⟩
  ihave Hv := (sems_zero (F := F) c) $$ [Hos Hus]
  · isplitl [Hos] <;> iassumption
  imod (show iprop((bigSep Finset.univ fun k : Fin 66 => semVal (cellAt (c, k)) 0) ∗ bigSep Finset.univ fun k : Fin 66 => roundState ER (Rd (F := F) m) (cellAt (c, k)) 0)
      ⊢ (|={Set.univ}=> bigSep Finset.univ fun k : Fin 66 => iprop(∃ κ : ℕ, cellInv ER (Rd (F := F) m) κ (cellAt (c, k))) : sProp 𝕄) from by
        rw [← bigSep_sep']
        exact (bigSep_mono fun k _ => (Rounds.body_intro ER (Rd (F := F) m) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to those who pay -/

/-- The tokens a device pays with. -/
def pay (c : Dev nD) : sProp 𝕄 :=
  iprop((dutyTok ER (barCell (nx c)) 0 0 ∗ dutyTok ER (barCell (ny c)) 0 1 ∗ dutyTok ER (barCell (nz c)) 0 2)
    ∗ dutyTok ER (locCell c) 0 0 ∗ (bigSep Finset.univ fun i => dutyTok ER (sendCell c i) 0 0)
    ∗ (bigSep Finset.univ fun i => dutyTok ER (recvCell (tgt c i) i) 0 0))

/-- A slot at its receiver is the slot at its sender. -/
def tgtE : Dev nD × Fin 32 ≃ Dev nD × Fin 32 :=
  ⟨fun p => (tgt p.1 p.2, p.2), fun p => (tgt p.1 p.2, p.2), fun p => Prod.ext (tgt_tgt p.1 p.2) rfl,
    fun p => Prod.ext (tgt_tgt p.1 p.2) rfl⟩

/-- The receivers' tokens, dealt to the senders. -/
theorem recv_around (Ψ : Dev nD → Fin 32 → sProp 𝕄) : (bigSep Finset.univ fun c : Dev nD => bigSep Finset.univ fun i : Fin 32 => Ψ c i)
    = bigSep Finset.univ fun c : Dev nD => bigSep Finset.univ fun i : Fin 32 => Ψ (tgt c i) i := by
  rw [← bigSep_univ_prod (fun p : Dev nD × Fin 32 => Ψ p.1 p.2), bigSep_univ_equiv tgtE, bigSep_univ_prod]
  rfl

/-- The barriers' tokens, dealt to the signallers. -/
theorem bar_around (d : Fin 3) (Ψ : Dev nD → sProp 𝕄) : (bigSep Finset.univ fun c : Dev nD => Ψ c) = bigSep Finset.univ fun c : Dev nD => Ψ (nb d c) :=
  bigSep_univ_equiv (nbE d) Ψ

/-- Every token goes to the device that pays with it. -/
theorem deal : (bigSep Finset.univ fun c : Dev nD => (toks c : sProp 𝕄)) ⊢ bigSep Finset.univ fun c : Dev nD => pay c := by
  unfold toks pay
  simp only [three, fun c => cells_named c (fun g => (dutyTok ER g 0 0 : sProp 𝕄)), bigSep_sep']
  rw [bar_around 0 (fun c => (dutyTok ER (barCell c) 0 0 : sProp 𝕄)), bar_around 1 (fun c => (dutyTok ER (barCell c) 0 1 : sProp 𝕄)),
    bar_around 2 (fun c => (dutyTok ER (barCell c) 0 2 : sProp 𝕄)), recv_around (fun c i => (dutyTok ER (recvCell c i) 0 0 : sProp 𝕄))]
  exact BI.Entails.refl _

/-- A persistent fact goes to every member of a family. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's positions and tokens, named. -/
theorem lin_eq (c : Dev nD) : iprop((bigSep Finset.univ fun k : Fin 66 => (atPos ER (cellAt (c, k)) 0 ∅ 0 : sProp 𝕄)) ∗ pay c) = lin c := by
  rw [cells_first, cells_named c (fun g => (atPos ER g 0 ∅ 0 : sProp 𝕄))]
  rfl

/-- What a device starts the protocol with. -/
theorem ghost_intro (K : Dev nD × Fin 66 → ℕ) (c : Dev nD) : iprop(recs' m K ∗ lin c) ⊢ ghost m c := by
  unfold ghost
  iintro H
  iexists K
  iexact H

/-- From what the launch makes of all semaphores to what every device starts with. -/
theorem regroup :
    (bigSep Finset.univ fun c : Dev nD => iprop((bigSep Finset.univ fun k : Fin 66 => iprop(∃ κ : ℕ, cellInv ER (Rd (F := F) m) κ (cellAt (c, k))))
          ∗ ((bigSep Finset.univ fun k : Fin 66 => atPos ER (cellAt (c, k)) 0 ∅ 0) ∗ (bigSep Finset.univ fun k : Fin 66 => reached ER (cellAt (c, k)) 0)) ∗ toks c) : sProp 𝕄)
      ⊢ bigSep Finset.univ (ghost m) := by
  rw [bigSep_sep', bigSep_sep', bigSep_sep', ← bigSep_univ_prod (fun ck : Dev nD × Fin 66 => iprop(∃ κ : ℕ, cellInv ER (Rd (F := F) m) κ (cellAt ck))),
    ← bigSep_univ_prod (fun ck : Dev nD × Fin 66 => (reached ER (cellAt ck) 0 : sProp 𝕄))]
  iintro ⟨HI, ⟨Hat, #HR⟩, Htok⟩
  ihave HK := (BI.bigSep_exists_pi Finset.univ (fun (ck : Dev nD × Fin 66) (κ : ℕ) => (cellInv ER (Rd (F := F) m) κ (cellAt ck) : sProp 𝕄))) $$ HI
  icases HK with ⟨%K, #HI⟩
  ihave Htk := (deal (F := F)) $$ Htok
  iapply (to_each (R := recs' m K) fun c _ => ghost_intro m K c)
  isplitr
  · unfold recs'; isplitl; · iexact HI
    iexact HR
  · iapply (Entails.of_eq ((bigSep_sep' Finset.univ (fun c : Dev nD => bigSep Finset.univ fun k : Fin 66 => (atPos ER (cellAt (c, k)) 0 ∅ 0 : sProp 𝕄)) pay).symm.trans
      (bigSep_congr fun c _ => lin_eq c)))
    isplitl [Hat]; · iexact Hat
    iexact Htk

/-- All devices' invariants, set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch's credit -/

/-- Barriers differ by device. -/
theorem bar_iff {a b : Dev nD} : Iff (barCell a = barCell b) (a = b) :=
  ⟨fun h => congrArg (fun g : GSem nD τ sig => g.1.1) h, fun h => h ▸ rfl⟩

/-- Receive semaphores differ by slot. -/
theorem recvS_inj : Function.Injective recvS := fun i j h => kR_inj (Fin.ext (congrArg Fin.val h))

/-- Receive semaphores differ by device and slot. -/
theorem recv_iff {a b : Dev nD} {i j : Fin 32} : Iff (recvCell a i = recvCell b j) (a = b ∧ i = j) :=
  ⟨fun h => ⟨congrArg (fun g : GSem nD τ sig => g.1.1) h, recvS_inj (by have := congrArg Prod.snd h; exact SemLoc.dma.inj this)⟩, fun h => by rw [h.1, h.2]⟩

/-- A barrier is no receive semaphore. -/
theorem bar_ne_recv (a b : Dev nD) (i : Fin 32) : barCell a ≠ recvCell b i := fun h => by
  have := congrArg Prod.snd h
  cases this

theorem tally_app (g g' : GSem nD τ sig) (n : ℕ) : (tallyAt g () n : CellTallies nD τ sig Unit) g' () = if g' = g then n else 0 := by
  rw [tallyAt_apply]
  by_cases h : g' = g
  · rw [if_pos h]; subst h; simp
  · rw [if_neg h, if_neg fun h' => h (by first | exact h'.1 | exact h'.1.symm)]

/-- A unit owed to a neighbour's barrier. -/
theorem owed_nb (d : Fin 3) (a c : Dev nD) : (tallyAt (barCell (nb d a)) () 1 : CellTallies nD τ sig Unit) (barCell c) () = if a = nb d c then 1 else 0 := by
  rw [tally_app]
  by_cases h : a = nb d c
  · rw [if_pos h, if_pos (by rw [h, nb_nb])]
  · rw [if_neg h, if_neg fun h' => h (by rw [bar_iff.mp h', nb_nb])]

/-- Who owes a barrier: the three neighbours. -/
theorem owed_bar (a c : Dev nD) : O₀ a (barCell c) () = (if a = nz c then 1 else 0) + (if a = ny c then 1 else 0) + (if a = nx c then 1 else 0) := by
  have h : OB a Finset.univ (barCell c) () = 0 := by
    by_contra hne
    obtain ⟨i, -, hi⟩ := OB_pos (Nat.pos_of_ne_zero hne)
    exact bar_ne_recv _ _ _ hi
  unfold O₀
  rw [Pi.add_apply, Finsupp.add_apply, Pi.add_apply, Finsupp.add_apply, Pi.add_apply, Finsupp.add_apply, h, Nat.zero_add]
  exact congrArg₂ _ (congrArg₂ _ (owed_nb 2 a c) (owed_nb 1 a c)) (owed_nb 0 a c)

/-- Who owes a receive semaphore: the slot's sender. -/
theorem owed_recv (a c : Dev nD) (i : Fin 32) : O₀ a (recvCell c i) () = if a = tgt c i then N else 0 := by
  unfold O₀
  rw [Pi.add_apply, Finsupp.add_apply, Pi.add_apply, Finsupp.add_apply, Pi.add_apply, Finsupp.add_apply, tally_app, tally_app, tally_app,
    if_neg (bar_ne_recv _ _ _).symm, if_neg (bar_ne_recv _ _ _).symm, if_neg (bar_ne_recv _ _ _).symm]
  unfold OB
  rw [Finset.sum_apply, Finsupp.finset_sum_apply, Finset.sum_eq_single i]
  · rw [tally_app]
    by_cases h : a = tgt c i
    · rw [if_pos h, if_pos (by rw [h, tgt_tgt])]; rfl
    · rw [if_neg h, if_neg fun h' => h (by rw [(recv_iff.mp h').1, tgt_tgt])]
  · intro j _ hj
    rw [tally_app, if_neg fun h' => hj (recv_iff.mp h').2.symm]
  · exact fun h => absurd (Finset.mem_univ _) h

/-- A barrier's credit at the launch. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun a _ => owed_bar a c, Finset.sum_add_distrib, Finset.sum_add_distrib,
    Finset.sum_ite_eq' Finset.univ (nz c) fun _ => 1, Finset.sum_ite_eq' Finset.univ (ny c) fun _ => 1, Finset.sum_ite_eq' Finset.univ (nx c) fun _ => 1,
    if_pos (Finset.mem_univ _), if_pos (Finset.mem_univ _), if_pos (Finset.mem_univ _)]

/-- A receive semaphore's credit at the launch. -/
theorem launch_recv (c : Dev nD) (i : Fin 32) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun a _ => owed_recv a c i, Finset.sum_ite_eq' Finset.univ (tgt c i) fun _ => N,
    if_pos (Finset.mem_univ _)]

def recvE : Fin 32 ↪ SemLoc sig := ⟨fun i => .dma (recvS i), fun i j h => recvS_inj (SemLoc.dma.inj h)⟩

/-- A device's credits at the launch: three units of its barrier, a piece's of each receive cell. -/
theorem creds (c : Dev nD) :
    (Pipeline.launchCred O₀ c : sProp 𝕄) ⊢ iprop(cred (tallyAt (barCell c) () 3) ∗ bigSep Finset.univ fun i => cred (tallyAt (recvCell c i) () N)) := by
  unfold Pipeline.launchCred
  rw [bigSep_univ_at _ (SemLoc.reg barS), launch_bar]
  refine sep_mono_right ?_
  have h : Finset.univ.map recvE ⊆ Finset.univ.erase (SemLoc.reg barS) := fun x hx => by
    rw [Finset.mem_map] at hx
    obtain ⟨i, -, rfl⟩ := hx
    exact Finset.mem_erase.mpr ⟨fun h => (by cases h), Finset.mem_univ _⟩
  refine BI.Entails.trans (bigSep_subset h) ?_
  rw [bigSep_map]
  have e : (bigSep Finset.univ fun i : Fin 32 => (cred (tallyOn (recvCell c i) (launchCredit (Pipeline.owing O₀) 0 (recvCell c i))) : sProp 𝕄))
      = bigSep Finset.univ fun i : Fin 32 => cred (tallyAt (recvCell c i) () N) := bigSep_congr fun i _ => congrArg cred (launch_recv c i)
  rw [← e]
  exact BI.Entails.refl _

/-! ## The run -/

/-- The windows are held whole. -/
theorem share_eq (c : Dev nD) (w : Fin cfg0.W) : (dats m 0 c).share w = fullShare := by unfold Dat.share; split <;> rfl

/-- What a device holds when the program is called. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  rw [Pipeline.unscopedRestP_eq_of_list (win := cfg0.spec) c Pipeline.Prefetch.none _ [main_arg0] (by decide) (by decide)]
  rw [show (bigSepL [main_arg0] fun b => (((c : Thread nD τ).loc b) ↦{fullShare} m ((c : Thread nD τ).loc b) : sProp 𝕄)) = xPts m c from rfl]
  iintro ⟨Hx, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    iexact Hx
  · iempintro

/-- That is the state before the one point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

/-- The state after it gives everything back. -/
theorem phi1_exit (c : Dev nD) :
    (dats m 0 c).Φ (Fin.last cfg0.N) ⊢ iprop((xPts m c ∗ unscopedSems0 c) ∗ Pipeline.ownSems0 osem c ∗ Pipeline.scopedRest cfg0.spec c) := by
  rw [show (dats m 0 c).Φ (Fin.last cfg0.N) = Φ₁ m c from rfl, scopedRest0_eq, own_eq, unscoped_eq, cells_named c (fun g => (semVal g 0 : sProp 𝕄))]
  unfold Φ₁ fr scr
  iintro ⟨⟨Hx, HB, HL⟩, HS, HR, Hs⟩
  isplitl [Hx HB]
  · isplitl [Hx] <;> iassumption
  isplitl [HL HS HR]
  · isplitl [HL]; · iexact HL
    isplitl [HS] <;> iassumption
  iexact Hs

/-- The launch's own waits are below everything owed. -/
theorem waits (c : Dev nD) : (levAts L lv : sProp 𝕄) ⊢ Pipeline.cellsWaits cfgs (dats m) () 0 c :=
  Pipeline.cellsWaits_intro cfgs (dats m) () 0 c fun w s t => by
    have h0 : lvS (.dma ((cfg0.win w).sem s)) = 0 := by revert w s; decide
    rcases t with ⟨_ | _, ht⟩
    · exact mayWait_start c _ h0
    · show _ ⊢ MayWait _ _ _ 0
      rw [MayWait_zero]
      exact Laws.true_intro

/-- What the result's array holds at the end. -/
def finalA (c : Dev nD) (w : Fin cfg0.W) : Buf (Elt F) ((cfg0.win w).arr.view.loc (c : Thread nD τ)) := (dats m 0 c).arrAt w cfg0.N

set_option maxRecDepth 8000 in
/-- Every fair run ends, with the result's array at its contents, the argument as it was, every semaphore at zero. -/
theorem run_main : θ_run defs (onTc (τ := τ) (main (F := F))) ⟨m, fun _ => 0, ρ⟩ (fun r =>
    (∀ c : Dev nD, (∀ w : Fin cfg0.W, r.2.mem ((cfg0.win w).arr.view.loc (c : Thread nD τ)) = finalA m c w)
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(xPts m c ∗ unscopedSems0 c)) (Z := fun _ => iprop(emp))
    (hX := start_intro m ρ) (hin := phi0_intro m) (hout := phi1_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨⟨Hx, Hu⟩, -, HSI⟩
      icombine HSI Hx gives %hx
      imod (Pipeline.unscopedSems0_read (X := unscopedSems0 c) (c := c) fupd_intro s') $$ [Hu HSI] with ⟨%hz, HSI⟩
      · isplitl [Hu] <;> iassumption
      imodintro
      isplitr; · ipureintro; exact ⟨Buf.eq_of_forall_mem_univ hx, hz⟩
      iexact HSI)
    (hQ := fun _ h hs => ⟨fun c => ⟨(h c).1, (h c).2.2.1⟩, sem_eq_zero hs fun c => (h c).2.2.2⟩)

end Cert.Cube

end
-- ==== Proof.Value.lean ====
/-
The result's array at the end, and its contents over the reals: the sum of the two halves of the whole argument.
-/
module

public import proofs.«01_k».proof.Proof.Launch
public import proofs.«01_k».proof.Proof.Gen.KernelIdeal.Points
public import Idealize.ShloMosaic.Lib.Pipeline.ValueKit
public import Idealize.ShloMosaic.Lib.Layout
public import Idealize.ShloMosaic.Lib.Pointwise.Reduce
public import proofs.«01_k».proof.Proof.Gen.ReferenceIdeal.Run

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA Auth

variable {F : FTy → Type} [FloatOps F]

local notation "𝕄" => MT nD τ sig Unit (Elt F) ℕ UU ℕ

/-! ## The array at the end -/

/-- The one point writes the whole array back. -/
theorem writes_whole : (cfg0.win 0).WholeAt t0_0 := (by decide +kernel : win0_0.WholeAt t0_0)

/-- The result's array ends at `Out`. -/
theorem final_out (m : (ℓ : Loc nD τ sig) → Buf (Elt F) ℓ) (c : Dev nD) : finalA m c 0 = Out m c := by
  refine (dats m 0 c).arrAt_eq_of_after_last 0 t0_0 writes_whole (Out m c) fun j => ?_
  rw [after_out]
  rfl

/-! ## The value over the reals -/

/-- Place `i` of half `z` of the whole argument. -/
def halfAt (z : ℕ) (hz : z < 2) (i : S4096x1024.Idx) : Cert.ReferenceIdeal.S8192x1024.Idx :=
  fun a => ⟨(![4096 * z + (i 0).val, (i 1).val] : Fin 2 → ℕ) a, by
    have h0 : (i 0).val < 4096 := (i 0).isLt
    have h1 : (i 1).val < 1024 := (i 1).isLt
    match a with
    | 0 => show 4096 * z + (i 0).val < 8192; omega
    | 1 => show (i 1).val < 1024; omega⟩

/-- Equal halves have equal places. -/
theorem halfAt_congr {z z' : ℕ} {hz : z < 2} {i : S4096x1024.Idx} (h : z = z') : halfAt z hz i = halfAt z' (h ▸ hz) i := by
  subst h
  rfl

/-- The first row of a device's quarter. -/
theorem off1_eq : ∀ d : Dev nD, k0_off1 d = ![1024 * (d.val / 2), 0] := by decide +kernel

/-- Which block of the whole argument a device holds. -/
abbrev blk (d : Dev nD) := Layout.meshBlock (r := 2) [2, 2, 2] ![[2], []] d

/-- The block a device holds is its coordinate along z. -/
theorem blk_val : ∀ d : Dev nD, (blk d 0).val = d.val % 2 ∧ (blk d 1).val = 0 := by decide

variable (m : (ℓ : Loc nD τ sig) → Buf (Elt Ideal) ℓ) (X : Cert.ReferenceIdeal.S8192x1024.Idx → Elt Ideal .f32)

/-- Every device holds its half of `X`. -/
def Holds : Prop := ∀ c : Dev nD, m ((c : Thread nD τ).loc main_arg0)
  = Layout.blockN ⟨2, ![4096, 1024]⟩ ⟨2, ![8192, 1024]⟩ (blk c) X

variable {m X}

/-- What a device that works on the quarter of `i` loads, at `i`. -/
theorem load_at (h : Holds m X) (d : Dev nD) (i : S4096x1024.Idx) (hd : d.val / 2 = (i 0).val / 1024) :
    Lq m d (inQ i) = X (halfAt (d.val % 2) (Nat.mod_lt _ (by decide)) i) := by
  have h0 : (i 0).val < 4096 := (i 0).isLt
  unfold Lq
  rw [h d]
  show X _ = X _
  congr 1
  funext a
  apply Fin.ext
  match a with
  | 0 =>
    show (blk d 0).val * 4096 + (k0_off1 d 0 + 1 * ((i 0).val % 1024))
      = 4096 * (d.val % 2) + (i 0).val
    rw [(blk_val d).1, off1_eq d]
    show d.val % 2 * 4096 + (1024 * (d.val / 2) + 1 * ((i 0).val % 1024)) = _
    omega
  | 1 =>
    show (blk d 1).val * 1024 + (k0_off1 d 1 + 1 * (i 1).val) = (i 1).val
    rw [(blk_val d).2, off1_eq d]
    show 0 * 1024 + (0 + 1 * (i 1).val) = _
    omega

/-- The neighbour along z works on the same quarter of the other half. -/
theorem nz_val : ∀ d : Dev nD, (nz d).val / 2 = d.val / 2 ∧ (nz d).val % 2 = 1 - d.val % 2 := by decide

/-- A device's sum over the reals: its own load and its neighbour's. -/
theorem sum_at (d : Dev nD) (j : S1024x1024.Idx) :
    Rv m d j = (Lq m d j + Lq m (nz d) j : EReal) := by
  unfold Rv Sv k0_pay1
  dsimp only
  rw [shapeCast_self]
  rfl

/-- The result over the reals: the sum of the two halves, on every device. -/
theorem out_at (h : Holds m X) (c : Dev nD) (i : S4096x1024.Idx) :
    Out m c i = (X (halfAt 0 (by decide) i) + X (halfAt 1 (by decide) i) : EReal) := by
  have h0 : (i 0).val < 4096 := (i 0).isLt
  unfold Out
  generalize hd : devAt c ((i 0).val / 1024) (quarter_lt i) = d
  have hv : d.val = 2 * ((i 0).val / 1024) + c.val % 2 := by rw [← hd]; rfl
  have e := nz_val d
  rw [sum_at, load_at h d i (by omega), load_at h (nz d) i (by omega)]
  rcases (show d.val % 2 = 0 ∨ d.val % 2 = 1 by omega) with hz | hz
  · rw [halfAt_congr hz, halfAt_congr (show (nz d).val % 2 = 1 by omega)]
  · rw [halfAt_congr hz, halfAt_congr (show (nz d).val % 2 = 0 by omega)]
    exact add_comm _ _

/-! ## The reference -/

/-- The reference's result, as its run leaves it. -/
abbrev refOut (X : Cert.ReferenceIdeal.S8192x1024.Idx → Elt Ideal .f32) : FVec Ideal S4096x1024 .bf16 :=
  truncf .bf16 (Host.reduceAdd (shapeCast Cert.ReferenceIdeal.S2x4096x1024 X
      Cert.ReferenceIdeal.Gen.shapeCasts_S8192x1024_S2x4096x1024)
    (constant Cert.ReferenceIdeal.S_ .f32 0x00000000#32)
    Cert.ReferenceIdeal.Gen.reducesTo_S2x4096x1024_S4096x1024_d0 Cert.ReferenceIdeal.Gen.h_S_)
    Cert.ReferenceIdeal.Gen.bitsLt_bf16_f32

/-- The reference over the reals: the sum of the two halves. -/
theorem ref_at (i : S4096x1024.Idx) :
    refOut X i = (X (halfAt 0 (by decide) i) + X (halfAt 1 (by decide) i) : EReal) := by
  have h0 : (i 0).val < 4096 := (i 0).isLt
  have h1 : (i 1).val < 1024 := (i 1).isLt
  unfold refOut
  rw [truncf_apply, Ideal.truncf_def, Host.reduceAdd_apply, Ideal.hostReduceAdd_def, Ideal.hostReduceAdd_r3_a0, Fin.sum_univ_two]
  rw [shapeCast_apply X _ _ (halfAt 0 (by decide) i), shapeCast_apply X _ _ (halfAt 1 (by decide) i)]
  · refine (congrArg (fun a : EReal => a + (X (halfAt 0 (by decide) i) + X (halfAt 1 (by decide) i))) ?_).trans (zero_add _)
    exact Ideal.ofBits_zero_f32
  all_goals
    rw [Shape.rowMajor_val_two, Shape.rowMajor_val_three]
  · show (4096 * 1 + (i 0).val) * 1024 + (i 1).val = (1 * 4096 + (i 0).val) * 1024 + (i 1).val
    omega
  · show (4096 * 0 + (i 0).val) * 1024 + (i 1).val = (0 * 4096 + (i 0).val) * 1024 + (i 1).val
    omega

/-- The kernel's result is the reference's, on every device. -/
theorem out_eq_ref (h : Holds m X) (c : Dev nD) : Out m c = refOut X :=
  funext fun i => (out_at h c i).trans (ref_at i).symm

end Cert.Cube

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

variable {F : FTy → Type} [FloatOps F]

/-- The two printed kernels, for the bits and for the reals, are one program. -/
theorem bodies_eq [Cert.Kernel.Facts] [Cert.KernelIdeal.Facts] :
    (Cert.Kernel.defs₀ (F := F)) = (Cert.KernelIdeal.defs₀ (F := F)) := by
  unfold Cert.Kernel.defs₀ Cert.KernelIdeal.defs₀
  congr 1
  funext ℓ
  match ℓ with
  | 0 => rfl

/-- So are the tables their launches run. -/
theorem tables_eq [Cert.Kernel.Facts] [Cert.KernelIdeal.Facts] :
    (Cert.Kernel.defs (F := F)) = (Cert.KernelIdeal.defs (F := F)) := by
  unfold Cert.Kernel.defs Cert.KernelIdeal.defs
  rw [bodies_eq]
  rfl

/-- The kernel ends, over the bits, with its argument as it was and every semaphore at zero. -/
theorem kernel_ends : Cert.quiescent_Kernel (hKernel := Cert.Kernel.Gen.facts) := by
  intro m g _
  rw [tables_eq]
  exact (θ_run _ _ _).mono (fun _ h => ⟨fun c => (h.1 c).2, h.2⟩) (Cert.Cube.run_main (F := Bits) m g)

/-- The kernel ends, over the reals, with its argument as it was and every semaphore at zero. -/
theorem ideal_ends : Cert.quiescent_KernelIdeal (hKernelIdeal := Cert.KernelIdeal.Gen.facts) := fun m g _ =>
  (θ_run _ _ _).mono (fun _ h => ⟨fun c => (h.1 c).2, h.2⟩) (Cert.Cube.run_main (F := Ideal) m g)

/-- The reference ends with its argument as it was; it has no semaphore. -/
theorem reference_ends : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- Over the reals, every device's result is the reference's. -/
theorem same_result : Cert.algebraic_KernelIdeal_ReferenceIdeal
    (hKernelIdeal := Cert.KernelIdeal.Gen.facts) (hReferenceIdeal := Cert.ReferenceIdeal.Gen.facts) := fun m g m' g' _ hm =>
  ⟨Cert.Cube.refOut (m' ((Thread.loc (((0 : Dev Cert.ReferenceIdeal.nD).tc : Thread Cert.ReferenceIdeal.nD Cert.ReferenceIdeal.τ))) Cert.ReferenceIdeal.main_arg0)),
    (θ_run _ _ _).mono (fun _ h c => ⟨((h.1 c).1 0).trans ((Cert.Cube.final_out m c).trans (Cert.Cube.out_eq_ref hm c)), (h.1 c).2⟩)
      (Cert.Cube.run_main (F := Ideal) m g),
    (θ_run _ _ _).mono (fun _ h => h 0) (Cert.ReferenceIdeal.Value.run m' g')⟩

/-- Every claim of the certificate. -/
theorem claim : Cert.Claim := ⟨Cert.Kernel.Gen.facts, Cert.KernelIdeal.Gen.facts, Cert.ReferenceIdeal.Gen.facts,
  kernel_ends, ideal_ends, reference_ends, trivial, same_result⟩

end Cert.Proof

end
